-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v75_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S4x16x64x64 : Shape := ⟨4, ![4, 16, 64, 64]⟩
abbrev S1024x1024 : Shape := ⟨2, ![1024, 1024]⟩
abbrev S1x1024 : Shape := ⟨2, ![1, 1024]⟩
abbrev S16x64 : Shape := ⟨2, ![16, 64]⟩
abbrev S8192x1024 : Shape := ⟨2, ![8192, 1024]⟩
abbrev S4x2048x16x64 : Shape := ⟨4, ![4, 2048, 16, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S4x2048x16x32 : Shape := ⟨4, ![4, 2048, 16, 32]⟩
abbrev S1024x1 : Shape := ⟨2, ![1024, 1]⟩
abbrev S8192x1 : Shape := ⟨2, ![8192, 1]⟩
abbrev S2x2x128x16x1 : Shape := ⟨5, ![2, 2, 128, 16, 1]⟩
abbrev S2x2x128x16x16 : Shape := ⟨5, ![2, 2, 128, 16, 16]⟩
abbrev S2x128x2x16x16 : Shape := ⟨5, ![2, 128, 2, 16, 16]⟩
abbrev S2x128x512x1 : Shape := ⟨4, ![2, 128, 512, 1]⟩
abbrev S2x128x512x64 : Shape := ⟨4, ![2, 128, 512, 64]⟩
abbrev S64x64x64 : Shape := ⟨3, ![64, 64, 64]⟩
abbrev S1x16x1x64 : Shape := ⟨4, ![1, 16, 1, 64]⟩
abbrev S32x16x1x64 : Shape := ⟨4, ![32, 16, 1, 64]⟩
abbrev S512x64 : Shape := ⟨2, ![512, 64]⟩
abbrev S2x16x16x64 : Shape := ⟨4, ![2, 16, 16, 64]⟩
abbrev S1x1x512x64 : Shape := ⟨4, ![1, 1, 512, 64]⟩
abbrev S32x64x64 : Shape := ⟨3, ![32, 64, 64]⟩
abbrev S16x16 : Shape := ⟨2, ![16, 16]⟩
abbrev S1x64x64 : Shape := ⟨3, ![1, 64, 64]⟩
abbrev S64x64 : Shape := ⟨2, ![64, 64]⟩
abbrev S512 : Shape := ⟨1, ![512]⟩
abbrev S512x1 : Shape := ⟨2, ![512, 1]⟩

abbrev nBuf : Space → Nat
  | .hbm => 96
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x16x64x64, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024, .f32⟩
  | .hbm, ⟨7, _⟩ => ⟨S16x64, .f32⟩
  | .hbm, ⟨8, _⟩ => ⟨S16x64, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S4x2048x16x64, .f32⟩
  | .hbm, ⟨13, _⟩ => ⟨S1024x1024, .f32⟩
  | .hbm, ⟨14, _⟩ => ⟨S8192x1024, .f32⟩
  | .hbm, ⟨15, _⟩ => ⟨S4x2048x16x64, .f32⟩
  | .hbm, ⟨16, _⟩ => ⟨S1024x1024, .f32⟩
  | .hbm, ⟨17, _⟩ => ⟨S8192x1024, .f32⟩
  | .hbm, ⟨18, _⟩ => ⟨S4x2048x16x64, .f32⟩
  | .hbm, ⟨19, _⟩ => ⟨S2048, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S2048x1, .f32⟩
  | .hbm, ⟨37, _⟩ => ⟨S1x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x64, .f32⟩
  | .hbm, ⟨42, _⟩ => ⟨S2048x64, .f32⟩
  | .hbm, ⟨43, _⟩ => ⟨S1x2048x1x64, .f32⟩
  | .hbm, ⟨44, _⟩ => ⟨S2048x64, .f32⟩
  | .hbm, ⟨45, _⟩ => ⟨S1x2048x1x64, .f32⟩
  | .hbm, ⟨46, _⟩ => ⟨S4x2048x16x64, .f32⟩
  | .hbm, ⟨47, _⟩ => ⟨S4x2048x16x64, .f32⟩
  | .hbm, ⟨48, _⟩ => ⟨S4x2048x16x32, .f32⟩
  | .hbm, ⟨49, _⟩ => ⟨S4x2048x16x32, .f32⟩
  | .hbm, ⟨50, _⟩ => ⟨S4x2048x16x32, .f32⟩
  | .hbm, ⟨51, _⟩ => ⟨S4x2048x16x64, .f32⟩
  | .hbm, ⟨52, _⟩ => ⟨S4x2048x16x64, .f32⟩
  | .hbm, ⟨53, _⟩ => ⟨S4x2048x16x64, .f32⟩
  | .hbm, ⟨54, _⟩ => ⟨S4x2048x16x64, .f32⟩
  | .hbm, ⟨55, _⟩ => ⟨S4x2048x16x64, .f32⟩
  | .hbm, ⟨56, _⟩ => ⟨S4x2048x16x64, .f32⟩
  | .hbm, ⟨57, _⟩ => ⟨S4x2048x16x32, .f32⟩
  | .hbm, ⟨58, _⟩ => ⟨S4x2048x16x32, .f32⟩
  | .hbm, ⟨59, _⟩ => ⟨S4x2048x16x32, .f32⟩
  | .hbm, ⟨60, _⟩ => ⟨S4x2048x16x64, .f32⟩
  | .hbm, ⟨61, _⟩ => ⟨S4x2048x16x64, .f32⟩
  | .hbm, ⟨62, _⟩ => ⟨S4x2048x16x64, .f32⟩
  | .hbm, ⟨63, _⟩ => ⟨S4x2048x16x64, .f32⟩
  | .hbm, ⟨64, _⟩ => ⟨S1024x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S2x2x128x16x1, .f32⟩
  | .hbm, ⟨78, _⟩ => ⟨S2x2x128x16x16, .f32⟩
  | .hbm, ⟨79, _⟩ => ⟨S2x128x2x16x16, .f32⟩
  | .hbm, ⟨80, _⟩ => ⟨S2x128x512x1, .f32⟩
  | .hbm, ⟨81, _⟩ => ⟨S2x128x512x64, .f32⟩
  | .hbm, ⟨82, _⟩ => ⟨S64x64x64, .f32⟩
  | .hbm, ⟨83, _⟩ => ⟨S1x16x1x64, .f32⟩
  | .hbm, ⟨84, _⟩ => ⟨S32x16x1x64, .f32⟩
  | .hbm, ⟨85, _⟩ => ⟨S512x64, .f32⟩
  | .hbm, ⟨86, _⟩ => ⟨S1x16x1x64, .f32⟩
  | .hbm, ⟨87, _⟩ => ⟨S32x16x1x64, .f32⟩
  | .hbm, ⟨88, _⟩ => ⟨S512x64, .f32⟩
  | .hbm, ⟨89, _⟩ => ⟨S4x2048x16x64, .f32⟩
  | .hbm, ⟨90, _⟩ => ⟨S64x64x64, .f32⟩
  | .hbm, ⟨91, _⟩ => ⟨S8192x1024, .f32⟩
  | .hbm, ⟨92, _⟩ => ⟨S1024x1024, .f32⟩
  | .hbm, ⟨93, _⟩ => ⟨S8192x1024, .f32⟩
  | .hbm, ⟨94, _⟩ => ⟨S4x2048x1024, .f32⟩
  | .hbm, ⟨95, _⟩ => ⟨S4x16x64x64, .f32⟩
  | .local _ .vmem, ⟨0, _⟩ => ⟨S2x16x16x64, .f32⟩
  | .local _ .vmem, ⟨1, _⟩ => ⟨S2x16x16x64, .f32⟩
  | .local _ .vmem, ⟨2, _⟩ => ⟨S2x16x16x64, .f32⟩
  | .local _ .vmem, ⟨3, _⟩ => ⟨S2x16x16x64, .f32⟩
  | .local _ .vmem, ⟨4, _⟩ => ⟨S2x16x16x64, .f32⟩
  | .local _ .vmem, ⟨5, _⟩ => ⟨S2x16x16x64, .f32⟩
  | .local _ .vmem, ⟨6, _⟩ => ⟨S1x1x512x64, .f32⟩
  | .local _ .vmem, ⟨7, _⟩ => ⟨S1x1x512x64, .f32⟩
  | .local _ .vmem, ⟨8, _⟩ => ⟨S32x64x64, .f32⟩
  | .local _ .vmem, ⟨9, _⟩ => ⟨S32x64x64, .f32⟩
  | .local _ .vmem, ⟨10, _⟩ => ⟨S512x64, .f32⟩
  | .local _ .vmem, ⟨11, _⟩ => ⟨S512x64, .f32⟩
  | .local _ .vmem, ⟨12, _⟩ => ⟨S2x16x16x64, .f32⟩
  | .local _ .vmem, ⟨13, _⟩ => ⟨S2x16x16x64, .f32⟩
  | .local _ .vmem, ⟨14, _⟩ => ⟨S32x64x64, .f32⟩
  | .local _ .vmem, ⟨15, _⟩ => ⟨S32x64x64, .f32⟩
  | .local _ .vmem, ⟨16, _⟩ => ⟨S2x16x16x64, .f32⟩
  | .local _ .vmem, ⟨17, _⟩ => ⟨S2x16x16x64, .f32⟩
  | .local _ .vmem, ⟨18, _⟩ => ⟨S2x16x16x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst : Ref sig .tc := ⟨.hbm, 21, rfl⟩
abbrev main_call0_v12 : Ref sig .tc := ⟨.hbm, 22, rfl⟩
abbrev main_call0_v13 : Ref sig .tc := ⟨.hbm, 23, rfl⟩
abbrev main_call0_cst_0 : Ref sig .tc := ⟨.hbm, 24, rfl⟩
abbrev main_call0_v14 : Ref sig .tc := ⟨.hbm, 25, rfl⟩
abbrev main_call0_v15 : Ref sig .tc := ⟨.hbm, 26, rfl⟩
abbrev main_call0_cst_1 : Ref sig .tc := ⟨.hbm, 27, rfl⟩
abbrev main_call0_v16 : Ref sig .tc := ⟨.hbm, 28, rfl⟩
abbrev main_call0_v17 : Ref sig .tc := ⟨.hbm, 29, rfl⟩
abbrev main_call0_cst_2 : Ref sig .tc := ⟨.hbm, 30, rfl⟩
abbrev main_call0_v18 : Ref sig .tc := ⟨.hbm, 31, rfl⟩
abbrev main_call0_v19 : Ref sig .tc := ⟨.hbm, 32, rfl⟩
abbrev main_call0_cst_3 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_v45 : Ref sig .tc := ⟨.hbm, 59, rfl⟩
abbrev main_call0_v46 : Ref sig .tc := ⟨.hbm, 60, rfl⟩
abbrev main_call0_v47 : Ref sig .tc := ⟨.hbm, 61, rfl⟩
abbrev main_call0_v48 : Ref sig .tc := ⟨.hbm, 62, rfl⟩
abbrev main_call0_v49 : Ref sig .tc := ⟨.hbm, 63, rfl⟩
abbrev main_call0_v50 : Ref sig .tc := ⟨.hbm, 64, rfl⟩
abbrev main_call0_v51 : Ref sig .tc := ⟨.hbm, 65, rfl⟩
abbrev main_call0_v52 : Ref sig .tc := ⟨.hbm, 66, rfl⟩
abbrev main_call0_v53 : Ref sig .tc := ⟨.hbm, 67, rfl⟩
abbrev main_call0_cst_4 : Ref sig .tc := ⟨.hbm, 68, rfl⟩
abbrev main_call0_v54 : Ref sig .tc := ⟨.hbm, 69, rfl⟩
abbrev main_call0_v55 : Ref sig .tc := ⟨.hbm, 70, rfl⟩
abbrev main_call0_cst_5 : Ref sig .tc := ⟨.hbm, 71, rfl⟩
abbrev main_call0_v56 : Ref sig .tc := ⟨.hbm, 72, rfl⟩
abbrev main_call0_v57 : Ref sig .tc := ⟨.hbm, 73, rfl⟩
abbrev main_call0_cst_6 : Ref sig .tc := ⟨.hbm, 74, rfl⟩
abbrev main_call0_v58 : Ref sig .tc := ⟨.hbm, 75, rfl⟩
abbrev main_call0_v59 : Ref sig .tc := ⟨.hbm, 76, rfl⟩
abbrev main_call0_v60 : Ref sig .tc := ⟨.hbm, 77, rfl⟩
abbrev main_call0_v61 : Ref sig .tc := ⟨.hbm, 78, rfl⟩
abbrev main_call0_v62 : Ref sig .tc := ⟨.hbm, 79, rfl⟩
abbrev main_call0_v63 : Ref sig .tc := ⟨.hbm, 80, rfl⟩
abbrev main_call0_v64 : Ref sig .tc := ⟨.hbm, 81, rfl⟩
abbrev main_call0_v65 : Ref sig .tc := ⟨.hbm, 82, rfl⟩
abbrev main_call0_v66 : Ref sig .tc := ⟨.hbm, 83, rfl⟩
abbrev main_call0_v67 : Ref sig .tc := ⟨.hbm, 84, rfl⟩
abbrev main_call0_v68 : Ref sig .tc := ⟨.hbm, 85, rfl⟩
abbrev main_call0_v69 : Ref sig .tc := ⟨.hbm, 86, rfl⟩
abbrev main_call0_v70 : Ref sig .tc := ⟨.hbm, 87, rfl⟩
abbrev main_call0_v71 : Ref sig .tc := ⟨.hbm, 88, rfl⟩
abbrev main_call0_v72_0 : Ref sig .tc := ⟨.hbm, 89, rfl⟩
abbrev main_call0_v72_1 : Ref sig .tc := ⟨.hbm, 90, rfl⟩
abbrev main_call0_v73 : Ref sig .tc := ⟨.hbm, 91, rfl⟩
abbrev main_call0_v74 : Ref sig .tc := ⟨.hbm, 92, rfl⟩
abbrev main_call0_v75 : Ref sig .tc := ⟨.hbm, 93, rfl⟩
abbrev main_v0_0 : Ref sig .tc := ⟨.hbm, 94, rfl⟩
abbrev main_v0_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x16x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x2048x1024 : Shape := ⟨3, ![4, 2048, 1024]⟩
abbrev S4x16x64x64 : Shape := ⟨4, ![4, 16, 64, 64]⟩
abbrev S1024x1024 : Shape := ⟨2, ![1024, 1024]⟩
abbrev S1x1024 : Shape := ⟨2, ![1, 1024]⟩
abbrev S16x64 : Shape := ⟨2, ![16, 64]⟩
abbrev S4x2048x16x64 : Shape := ⟨4, ![4, 2048, 16, 64]⟩
abbrev S4x16x2048x64 : Shape := ⟨4, ![4, 16, 2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x1x2048x64 : Shape := ⟨4, ![1, 1, 2048, 64]⟩
abbrev S4x16x2048x32 : Shape := ⟨4, ![4, 16, 2048, 32]⟩
abbrev S1024x1 : Shape := ⟨2, ![1024, 1]⟩
abbrev S4x2048x1 : Shape := ⟨3, ![4, 2048, 1]⟩
abbrev S4x2048x16 : Shape := ⟨3, ![4, 2048, 16]⟩
abbrev S4x16x2048 : Shape := ⟨3, ![4, 16, 2048]⟩
abbrev S4x16x128x16x64 : Shape := ⟨5, ![4, 16, 128, 16, 64]⟩
abbrev S128x4x16x16x64 : Shape := ⟨5, ![128, 4, 16, 16, 64]⟩
abbrev S4x16x128x16 : Shape := ⟨4, ![4, 16, 128, 16]⟩
abbrev S128x4x16x16 : Shape := ⟨4, ![128, 4, 16, 16]⟩
abbrev S16x16 : Shape := ⟨2, ![16, 16]⟩
abbrev S1x4x16x16x64 : Shape := ⟨5, ![1, 4, 16, 16, 64]⟩
abbrev S4x16x16x64 : Shape := ⟨4, ![4, 16, 16, 64]⟩
abbrev S1x4x16x16 : Shape := ⟨4, ![1, 4, 16, 16]⟩
abbrev S4x16x16 : Shape := ⟨3, ![4, 16, 16]⟩
abbrev S4x16x16x1 : Shape := ⟨4, ![4, 16, 16, 1]⟩
abbrev S1x16x1x64 : Shape := ⟨4, ![1, 16, 1, 64]⟩
abbrev S4x16x16x16 : Shape := ⟨4, ![4, 16, 16, 16]⟩

abbrev nBuf : Space → Nat
  | .hbm => 322
  | .vmem => 0
  | .smem => 0
  | _ => 0

abbrev hbmTy0_0 (i : Nat) : BufTy := match i % 128 with
  | 0 => ⟨S4x2048x1024, .f32⟩
  | 1 => ⟨S4x16x64x64, .f32⟩
  | 2 => ⟨S1024x1024, .f32⟩
  | 3 => ⟨S1024x1024, .f32⟩
  | 4 => ⟨S1024x1024, .f32⟩
  | 5 => ⟨S1024x1024, .f32⟩
  | 6 => ⟨S1x1024, .f32⟩
  | 7 => ⟨S16x64, .f32⟩
  | 8 => ⟨S16x64, .f32⟩
  | 9 => ⟨S1024x1024, .f32⟩
  | 10 => ⟨S4x2048x1024, .f32⟩
  | 11 => ⟨S4x2048x16x64, .f32⟩
  | 12 => ⟨S4x16x2048x64, .f32⟩
  | 13 => ⟨S1024x1024, .f32⟩
  | 14 => ⟨S4x2048x1024, .f32⟩
  | 15 => ⟨S4x2048x16x64, .f32⟩
  | 16 => ⟨S4x16x2048x64, .f32⟩
  | 17 => ⟨S1024x1024, .f32⟩
  | 18 => ⟨S4x2048x1024, .f32⟩
  | 19 => ⟨S4x2048x16x64, .f32⟩
  | 20 => ⟨S4x16x2048x64, .f32⟩
  | 21 => ⟨S2048, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S2048x1, .f32⟩
  | 39 => ⟨S1x32, .f32⟩
  | 40 => ⟨S2048x32, .f32⟩
  | 41 => ⟨S2048x32, .f32⟩
  | 42 => ⟨S2048x32, .f32⟩
  | 43 => ⟨S2048x64, .f32⟩
  | 44 => ⟨S2048x64, .f32⟩
  | 45 => ⟨S1x1x2048x64, .f32⟩
  | 46 => ⟨S2048x64, .f32⟩
  | 47 => ⟨S1x1x2048x64, .f32⟩
  | 48 => ⟨S4x16x2048x64, .f32⟩
  | 49 => ⟨S4x16x2048x64, .f32⟩
  | 50 => ⟨S4x16x2048x32, .f32⟩
  | 51 => ⟨S4x16x2048x32, .f32⟩
  | 52 => ⟨S4x16x2048x32, .f32⟩
  | 53 => ⟨S4x16x2048x64, .f32⟩
  | 54 => ⟨S4x16x2048x64, .f32⟩
  | 55 => ⟨S4x16x2048x64, .f32⟩
  | 56 => ⟨S4x16x2048x64, .f32⟩
  | 57 => ⟨S4x16x2048x64, .f32⟩
  | 58 => ⟨S4x16x2048x64, .f32⟩
  | 59 => ⟨S4x16x2048x32, .f32⟩
  | 60 => ⟨S4x16x2048x32, .f32⟩
  | 61 => ⟨S4x16x2048x32, .f32⟩
  | 62 => ⟨S4x16x2048x64, .f32⟩
  | 63 => ⟨S4x16x2048x64, .f32⟩
  | 64 => ⟨S4x16x2048x64, .f32⟩
  | 65 => ⟨S4x16x2048x64, .f32⟩
  | 66 => ⟨S1024x1, .f32⟩
  | 67 => ⟨S4x2048x1, .f32⟩
  | 68 => ⟨S4x2048x1, .f32⟩
  | 69 => ⟨S4x2048x1, .f32⟩
  | 70 => ⟨S_, .f32⟩
  | 71 => ⟨S4x2048x1, .f32⟩
  | 72 => ⟨S4x2048x1, .f32⟩
  | 73 => ⟨S_, .f32⟩
  | 74 => ⟨S4x2048x1, .f32⟩
  | 75 => ⟨S4x2048x1, .f32⟩
  | 76 => ⟨S_, .f32⟩
  | 77 => ⟨S4x2048x1, .f32⟩
  | 78 => ⟨S4x2048x1, .f32⟩
  | 79 => ⟨S4x2048x16, .f32⟩
  | 80 => ⟨S4x16x2048, .f32⟩
  | 81 => ⟨S4x16x128x16x64, .f32⟩
  | 82 => ⟨S128x4x16x16x64, .f32⟩
  | 83 => ⟨S4x16x128x16x64, .f32⟩
  | 84 => ⟨S128x4x16x16x64, .f32⟩
  | 85 => ⟨S4x16x128x16x64, .f32⟩
  | 86 => ⟨S128x4x16x16x64, .f32⟩
  | 87 => ⟨S4x16x128x16, .f32⟩
  | 88 => ⟨S128x4x16x16, .f32⟩
  | 89 => ⟨S_, .i1⟩
  | 90 => ⟨S16x16, .i1⟩
  | 91 => ⟨S16x16, .i32⟩
  | 92 => ⟨S_, .i32⟩
  | 93 => ⟨S16x16, .i32⟩
  | 94 => ⟨S16x16, .i32⟩
  | 95 => ⟨S16x16, .i32⟩
  | 96 => ⟨S16x16, .i1⟩
  | 97 => ⟨S_, .i1⟩
  | 98 => ⟨S16x16, .i1⟩
  | 99 => ⟨S16x16, .i1⟩
  | 100 => ⟨S_, .f32⟩
  | 101 => ⟨S128x4x16x16x64, .f32⟩
  | 102 => ⟨S_, .i32⟩
  | 103 => ⟨S128x4x16x16x64, .f32⟩
  | 104 => ⟨S128x4x16x16x64, .f32⟩
  | 105 => ⟨S128x4x16x16x64, .f32⟩
  | 106 => ⟨S128x4x16x16, .f32⟩
  | 107 => ⟨S16x64, .f32⟩
  | 108 => ⟨S16x64, .f32⟩
  | 109 => ⟨S16x16, .i1⟩
  | 110 => ⟨S_, .i32⟩
  | 111 => ⟨S4x16x64x64, .f32⟩
  | 112 => ⟨S128x4x16x16x64, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S1x4x16x16x64, .f32⟩
  | 120 => ⟨S4x16x16x64, .f32⟩
  | 121 => ⟨S_, .i32⟩
  | 122 => ⟨S_, .i32⟩
  | 123 => ⟨S_, .i32⟩
  | 124 => ⟨S_, .i32⟩
  | 125 => ⟨S1x4x16x16x64, .f32⟩
  | 126 => ⟨S4x16x16x64, .f32⟩
  | 127 => ⟨S_, .i32⟩
  | _ => ⟨S4x2048x1024, .f32⟩

abbrev hbmTy0_1 (i : Nat) : BufTy := match i % 128 with
  | 0 => ⟨S_, .i32⟩
  | 1 => ⟨S_, .i32⟩
  | 2 => ⟨S_, .i32⟩
  | 3 => ⟨S1x4x16x16x64, .f32⟩
  | 4 => ⟨S4x16x16x64, .f32⟩
  | 5 => ⟨S_, .i32⟩
  | 6 => ⟨S_, .i32⟩
  | 7 => ⟨S_, .i32⟩
  | 8 => ⟨S1x4x16x16, .f32⟩
  | 9 => ⟨S4x16x16, .f32⟩
  | 10 => ⟨S4x16x16x64, .f32⟩
  | 11 => ⟨S_, .f32⟩
  | 12 => ⟨S4x16x16, .f32⟩
  | 13 => ⟨S4x16x16x1, .f32⟩
  | 14 => ⟨S_, .f32⟩
  | 15 => ⟨S4x16x16x1, .f32⟩
  | 16 => ⟨S4x16x16x1, .f32⟩
  | 17 => ⟨S_, .i32⟩
  | 18 => ⟨S_, .f32⟩
  | 19 => ⟨S4x16x16, .f32⟩
  | 20 => ⟨S4x16x16x1, .f32⟩
  | 21 => ⟨S_, .f32⟩
  | 22 => ⟨S4x16x16x1, .f32⟩
  | 23 => ⟨S4x16x16x1, .f32⟩
  | 24 => ⟨S4x16x16x64, .f32⟩
  | 25 => ⟨S4x16x16x64, .f32⟩
  | 26 => ⟨S4x16x16x64, .f32⟩
  | 27 => ⟨S_, .f32⟩
  | 28 => ⟨S_, .f32⟩
  | 29 => ⟨S_, .f32⟩
  | 30 => ⟨S_, .f32⟩
  | 31 => ⟨S4x16x16, .f32⟩
  | 32 => ⟨S4x16x16x1, .f32⟩
  | 33 => ⟨S4x16x16x1, .f32⟩
  | 34 => ⟨S4x16x16x1, .f32⟩
  | 35 => ⟨S_, .f32⟩
  | 36 => ⟨S_, .i1⟩
  | 37 => ⟨S_, .f32⟩
  | 38 => ⟨S_, .f32⟩
  | 39 => ⟨S4x16x16x1, .f32⟩
  | 40 => ⟨S4x16x16x1, .f32⟩
  | 41 => ⟨S4x16x16x64, .f32⟩
  | 42 => ⟨S4x16x16x64, .f32⟩
  | 43 => ⟨S_, .f32⟩
  | 44 => ⟨S4x16x16x1, .f32⟩
  | 45 => ⟨S4x16x16x1, .f32⟩
  | 46 => ⟨S4x16x16x1, .f32⟩
  | 47 => ⟨S4x16x16x64, .f32⟩
  | 48 => ⟨S4x16x16x64, .f32⟩
  | 49 => ⟨S1x16x1x64, .f32⟩
  | 50 => ⟨S4x16x16x64, .f32⟩
  | 51 => ⟨S4x16x16x64, .f32⟩
  | 52 => ⟨S1x16x1x64, .f32⟩
  | 53 => ⟨S4x16x16x64, .f32⟩
  | 54 => ⟨S4x16x16x64, .f32⟩
  | 55 => ⟨S4x16x16x64, .f32⟩
  | 56 => ⟨S4x16x16x64, .f32⟩
  | 57 => ⟨S_, .f32⟩
  | 58 => ⟨S4x16x16x64, .f32⟩
  | 59 => ⟨S4x16x16x64, .f32⟩
  | 60 => ⟨S_, .f32⟩
  | 61 => ⟨S4x16x16, .f32⟩
  | 62 => ⟨S4x16x16x1, .f32⟩
  | 63 => ⟨S_, .f32⟩
  | 64 => ⟨S4x16x16x1, .f32⟩
  | 65 => ⟨S4x16x16x1, .f32⟩
  | 66 => ⟨S_, .i32⟩
  | 67 => ⟨S_, .f32⟩
  | 68 => ⟨S4x16x16, .f32⟩
  | 69 => ⟨S4x16x16x1, .f32⟩
  | 70 => ⟨S_, .f32⟩
  | 71 => ⟨S4x16x16x1, .f32⟩
  | 72 => ⟨S4x16x16x1, .f32⟩
  | 73 => ⟨S4x16x16x64, .f32⟩
  | 74 => ⟨S4x16x16x64, .f32⟩
  | 75 => ⟨S4x16x16x64, .f32⟩
  | 76 => ⟨S_, .f32⟩
  | 77 => ⟨S_, .f32⟩
  | 78 => ⟨S_, .f32⟩
  | 79 => ⟨S_, .f32⟩
  | 80 => ⟨S4x16x16, .f32⟩
  | 81 => ⟨S4x16x16x1, .f32⟩
  | 82 => ⟨S4x16x16x1, .f32⟩
  | 83 => ⟨S4x16x16x1, .f32⟩
  | 84 => ⟨S_, .f32⟩
  | 85 => ⟨S_, .i1⟩
  | 86 => ⟨S_, .f32⟩
  | 87 => ⟨S_, .f32⟩
  | 88 => ⟨S4x16x16x1, .f32⟩
  | 89 => ⟨S4x16x16x1, .f32⟩
  | 90 => ⟨S_, .f32⟩
  | 91 => ⟨S4x16x16x1, .f32⟩
  | 92 => ⟨S4x16x16x1, .f32⟩
  | 93 => ⟨S4x16x16x1, .f32⟩
  | 94 => ⟨S4x16x16x64, .f32⟩
  | 95 => ⟨S4x16x16x64, .f32⟩
  | 96 => ⟨S4x16x16x64, .f32⟩
  | 97 => ⟨S4x16x16x64, .f32⟩
  | 98 => ⟨S1x16x1x64, .f32⟩
  | 99 => ⟨S4x16x16x64, .f32⟩
  | 100 => ⟨S4x16x16x64, .f32⟩
  | 101 => ⟨S_, .f32⟩
  | 102 => ⟨S4x16x16, .f32⟩
  | 103 => ⟨S4x16x16x1, .f32⟩
  | 104 => ⟨S_, .f32⟩
  | 105 => ⟨S4x16x16x1, .f32⟩
  | 106 => ⟨S4x16x16x1, .f32⟩
  | 107 => ⟨S4x16x16x64, .f32⟩
  | 108 => ⟨S4x16x16x64, .f32⟩
  | 109 => ⟨S4x16x16x64, .f32⟩
  | 110 => ⟨S_, .f32⟩
  | 111 => ⟨S4x16x16, .f32⟩
  | 112 => ⟨S4x16x16x1, .f32⟩
  | 113 => ⟨S_, .f32⟩
  | 114 => ⟨S4x16x16x1, .f32⟩
  | 115 => ⟨S4x16x16x1, .f32⟩
  | 116 => ⟨S4x16x16x64, .f32⟩
  | 117 => ⟨S4x16x16x64, .f32⟩
  | 118 => ⟨S4x16x16x64, .f32⟩
  | 119 => ⟨S4x16x16x64, .f32⟩
  | 120 => ⟨S4x16x16x64, .f32⟩
  | 121 => ⟨S4x16x16x16, .f32⟩
  | 122 => ⟨S4x16x16x1, .f32⟩
  | 123 => ⟨S4x16x16x64, .f32⟩
  | 124 => ⟨S4x16x16x64, .f32⟩
  | 125 => ⟨S_, .f32⟩
  | 126 => ⟨S_, .f32⟩
  | 127 => ⟨S4x16x16x16, .i1⟩
  | _ => ⟨S4x2048x1024, .f32⟩

abbrev hbmTy0_2 (i : Nat) : BufTy := match i % 128 with
  | 0 => ⟨S4x16x16x16, .f32⟩
  | 1 => ⟨S4x16x16x16, .f32⟩
  | 2 => ⟨S4x16x16x64, .f32⟩
  | 3 => ⟨S4x16x16x64, .f32⟩
  | 4 => ⟨S4x16x16x64, .f32⟩
  | 5 => ⟨S_, .f32⟩
  | 6 => ⟨S4x16x16, .f32⟩
  | 7 => ⟨S4x16x16x1, .f32⟩
  | 8 => ⟨S_, .f32⟩
  | 9 => ⟨S4x16x16x1, .f32⟩
  | 10 => ⟨S4x16x16x1, .f32⟩
  | 11 => ⟨S_, .i32⟩
  | 12 => ⟨S_, .f32⟩
  | 13 => ⟨S4x16x16, .f32⟩
  | 14 => ⟨S4x16x16x1, .f32⟩
  | 15 => ⟨S_, .f32⟩
  | 16 => ⟨S4x16x16x1, .f32⟩
  | 17 => ⟨S4x16x16x1, .f32⟩
  | 18 => ⟨S4x16x16x64, .f32⟩
  | 19 => ⟨S4x16x16x64, .f32⟩
  | 20 => ⟨S4x16x16x64, .f32⟩
  | 21 => ⟨S_, .f32⟩
  | 22 => ⟨S_, .f32⟩
  | 23 => ⟨S_, .f32⟩
  | 24 => ⟨S_, .f32⟩
  | 25 => ⟨S4x16x16, .f32⟩
  | 26 => ⟨S4x16x16x1, .f32⟩
  | 27 => ⟨S4x16x16x1, .f32⟩
  | 28 => ⟨S4x16x16x1, .f32⟩
  | 29 => ⟨S_, .f32⟩
  | 30 => ⟨S_, .i1⟩
  | 31 => ⟨S_, .f32⟩
  | 32 => ⟨S_, .f32⟩
  | 33 => ⟨S4x16x16x1, .f32⟩
  | 34 => ⟨S4x16x16x1, .f32⟩
  | 35 => ⟨S4x16x16x64, .f32⟩
  | 36 => ⟨S4x16x16x64, .f32⟩
  | 37 => ⟨S_, .f32⟩
  | 38 => ⟨S4x16x16x1, .f32⟩
  | 39 => ⟨S4x16x16x1, .f32⟩
  | 40 => ⟨S4x16x16x1, .f32⟩
  | 41 => ⟨S4x16x16x64, .f32⟩
  | 42 => ⟨S4x16x16x64, .f32⟩
  | 43 => ⟨S1x16x1x64, .f32⟩
  | 44 => ⟨S4x16x16x64, .f32⟩
  | 45 => ⟨S4x16x16x64, .f32⟩
  | 46 => ⟨S1x16x1x64, .f32⟩
  | 47 => ⟨S4x16x16x64, .f32⟩
  | 48 => ⟨S4x16x16x64, .f32⟩
  | 49 => ⟨S4x16x16x64, .f32⟩
  | 50 => ⟨S4x16x64x64, .f32⟩
  | 51 => ⟨S4x16x64x64, .f32⟩
  | 52 => ⟨S1x4x16x16x64, .f32⟩
  | 53 => ⟨S_, .i32⟩
  | 54 => ⟨S_, .i32⟩
  | 55 => ⟨S_, .i32⟩
  | 56 => ⟨S_, .i32⟩
  | 57 => ⟨S128x4x16x16x64, .f32⟩
  | 58 => ⟨S_, .i32⟩
  | 59 => ⟨S_, .i32⟩
  | 60 => ⟨S4x16x128x16x64, .f32⟩
  | 61 => ⟨S4x16x2048x64, .f32⟩
  | 62 => ⟨S4x2048x16x64, .f32⟩
  | 63 => ⟨S4x2048x1024, .f32⟩
  | 64 => ⟨S1024x1024, .f32⟩
  | 65 => ⟨S4x2048x1024, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_4 : Ref sig .tc := ⟨.hbm, 70, rfl⟩
abbrev main_v56 : Ref sig .tc := ⟨.hbm, 71, rfl⟩
abbrev main_v57 : Ref sig .tc := ⟨.hbm, 72, rfl⟩
abbrev main_cst_5 : Ref sig .tc := ⟨.hbm, 73, rfl⟩
abbrev main_v58 : Ref sig .tc := ⟨.hbm, 74, rfl⟩
abbrev main_v59 : Ref sig .tc := ⟨.hbm, 75, rfl⟩
abbrev main_cst_6 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c : Ref sig .tc := ⟨.hbm, 89, rfl⟩
abbrev main_v72 : Ref sig .tc := ⟨.hbm, 90, rfl⟩
abbrev main_call0_v0 : Ref sig .tc := ⟨.hbm, 91, rfl⟩
abbrev main_call0_c : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_c_0 : Ref sig .tc := ⟨.hbm, 97, rfl⟩
abbrev main_call0_v5 : Ref sig .tc := ⟨.hbm, 98, rfl⟩
abbrev main_v73 : Ref sig .tc := ⟨.hbm, 99, rfl⟩
abbrev main_cst_7 : Ref sig .tc := ⟨.hbm, 100, rfl⟩
abbrev main_v74 : Ref sig .tc := ⟨.hbm, 101, rfl⟩
abbrev main_c_8 : Ref sig .tc := ⟨.hbm, 102, rfl⟩
abbrev main_v75_0 : Ref sig .tc := ⟨.hbm, 103, rfl⟩
abbrev main_v75_1 : Ref sig .tc := ⟨.hbm, 104, rfl⟩
abbrev main_v75_2 : Ref sig .tc := ⟨.hbm, 105, rfl⟩
abbrev main_v75_3 : Ref sig .tc := ⟨.hbm, 106, rfl⟩
abbrev main_v75_4 : Ref sig .tc := ⟨.hbm, 107, rfl⟩
abbrev main_v75_5 : Ref sig .tc := ⟨.hbm, 108, rfl⟩
abbrev main_v75_6 : Ref sig .tc := ⟨.hbm, 109, rfl⟩
abbrev main_v75_7 : Ref sig .tc := ⟨.hbm, 110, rfl⟩
abbrev main_v75_8 : Ref sig .tc := ⟨.hbm, 111, rfl⟩
abbrev main_v75_9 : Ref sig .tc := ⟨.hbm, 112, rfl⟩
abbrev main_while0c_c_18 : Ref sig .tc := ⟨.hbm, 113, rfl⟩
abbrev main_while0c_v82 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_c_1 : Ref sig .tc := ⟨.hbm, 117, rfl⟩
abbrev main_while0b_call1_c_2 : Ref sig .tc := ⟨.hbm, 118, rfl⟩
abbrev main_while0b_call1_v0 : Ref sig .tc := ⟨.hbm, 119, rfl⟩
abbrev main_while0b_v82 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_c_1 : Ref sig .tc := ⟨.hbm, 123, rfl⟩
abbrev main_while0b_call2_c_2 : Ref sig .tc := ⟨.hbm, 124, rfl⟩
abbrev main_while0b_call2_v0 : Ref sig .tc := ⟨.hbm, 125, rfl⟩
abbrev main_while0b_v83 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_call3_c_1 : Ref sig .tc := ⟨.hbm, 129, rfl⟩
abbrev main_while0b_call3_c_2 : Ref sig .tc := ⟨.hbm, 130, rfl⟩
abbrev main_while0b_call3_v0 : Ref sig .tc := ⟨.hbm, 131, rfl⟩
abbrev main_while0b_v84 : Ref sig .tc := ⟨.hbm, 132, rfl⟩
abbrev main_while0b_call4_c : Ref sig .tc := ⟨.hbm, 133, rfl⟩
abbrev main_while0b_call4_c_0 : Ref sig .tc := ⟨.hbm, 134, rfl⟩
abbrev main_while0b_call4_c_1 : Ref sig .tc := ⟨.hbm, 135, rfl⟩
abbrev main_while0b_call4_v0 : Ref sig .tc := ⟨.hbm, 136, rfl⟩
abbrev main_while0b_v85 : Ref sig .tc := ⟨.hbm, 137, rfl⟩
abbrev main_while0b_v86 : Ref sig .tc := ⟨.hbm, 138, rfl⟩
abbrev main_while0b_cst_18 : Ref sig .tc := ⟨.hbm, 139, rfl⟩
abbrev main_while0b_v87 : Ref sig .tc := ⟨.hbm, 140, rfl⟩
abbrev main_while0b_v88 : Ref sig .tc := ⟨.hbm, 141, rfl⟩
abbrev main_while0b_cst_19 : Ref sig .tc := ⟨.hbm, 142, rfl⟩
abbrev main_while0b_v89 : Ref sig .tc := ⟨.hbm, 143, rfl⟩
abbrev main_while0b_v90 : Ref sig .tc := ⟨.hbm, 144, rfl⟩
abbrev main_while0b_c_20 : Ref sig .tc := ⟨.hbm, 145, rfl⟩
abbrev main_while0b_call5_cst : Ref sig .tc := ⟨.hbm, 146, rfl⟩
abbrev main_while0b_call5_v0 : Ref sig .tc := ⟨.hbm, 147, rfl⟩
abbrev main_while0b_call5_v1 : Ref sig .tc := ⟨.hbm, 148, rfl⟩
abbrev main_while0b_call5_cst_0 : Ref sig .tc := ⟨.hbm, 149, rfl⟩
abbrev main_while0b_call5_v2 : Ref sig .tc := ⟨.hbm, 150, rfl⟩
abbrev main_while0b_call5_v3 : Ref sig .tc := ⟨.hbm, 151, rfl⟩
abbrev main_while0b_call5_v4 : Ref sig .tc := ⟨.hbm, 152, rfl⟩
abbrev main_while0b_call5_v5 : Ref sig .tc := ⟨.hbm, 153, rfl⟩
abbrev main_while0b_call5_v6 : Ref sig .tc := ⟨.hbm, 154, rfl⟩
abbrev main_while0b_call5_v7 : Ref sig .tc := ⟨.hbm, 155, rfl⟩
abbrev main_while0b_call5_cst_1 : Ref sig .tc := ⟨.hbm, 156, rfl⟩
abbrev main_while0b_call5_v8 : Ref sig .tc := ⟨.hbm, 157, rfl⟩
abbrev main_while0b_call5_cst_2 : Ref sig .tc := ⟨.hbm, 158, rfl⟩
abbrev main_while0b_call5_v9 : Ref sig .tc := ⟨.hbm, 159, rfl⟩
abbrev main_while0b_call5_v10 : Ref sig .tc := ⟨.hbm, 160, rfl⟩
abbrev main_while0b_call5_v11 : Ref sig .tc := ⟨.hbm, 161, rfl⟩
abbrev main_while0b_call5_v12 : Ref sig .tc := ⟨.hbm, 162, rfl⟩
abbrev main_while0b_call5_cst_3 : Ref sig .tc := ⟨.hbm, 163, rfl⟩
abbrev main_while0b_call5_v13 : Ref sig .tc := ⟨.hbm, 164, rfl⟩
abbrev main_while0b_call5_cst_4 : Ref sig .tc := ⟨.hbm, 165, rfl⟩
abbrev main_while0b_call5_call0_v0 : Ref sig .tc := ⟨.hbm, 166, rfl⟩
abbrev main_while0b_call5_call0_v1 : Ref sig .tc := ⟨.hbm, 167, rfl⟩
abbrev main_while0b_v91 : Ref sig .tc := ⟨.hbm, 168, rfl⟩
abbrev main_while0b_v92 : Ref sig .tc := ⟨.hbm, 169, rfl⟩
abbrev main_while0b_v93 : Ref sig .tc := ⟨.hbm, 170, rfl⟩
abbrev main_while0b_cst_21 : Ref sig .tc := ⟨.hbm, 171, rfl⟩
abbrev main_while0b_v94 : Ref sig .tc := ⟨.hbm, 172, rfl⟩
abbrev main_while0b_v95 : Ref sig .tc := ⟨.hbm, 173, rfl⟩
abbrev main_while0b_v96 : Ref sig .tc := ⟨.hbm, 174, rfl⟩
abbrev main_while0b_v97 : Ref sig .tc := ⟨.hbm, 175, rfl⟩
abbrev main_while0b_v98 : Ref sig .tc := ⟨.hbm, 176, rfl⟩
abbrev main_while0b_v99 : Ref sig .tc := ⟨.hbm, 177, rfl⟩
abbrev main_while0b_v100 : Ref sig .tc := ⟨.hbm, 178, rfl⟩
abbrev main_while0b_v101 : Ref sig .tc := ⟨.hbm, 179, rfl⟩
abbrev main_while0b_v102 : Ref sig .tc := ⟨.hbm, 180, rfl⟩
abbrev main_while0b_v103 : Ref sig .tc := ⟨.hbm, 181, rfl⟩
abbrev main_while0b_v104 : Ref sig .tc := ⟨.hbm, 182, rfl⟩
abbrev main_while0b_v105 : Ref sig .tc := ⟨.hbm, 183, rfl⟩
abbrev main_while0b_v106 : Ref sig .tc := ⟨.hbm, 184, rfl⟩
abbrev main_while0b_cst_22 : Ref sig .tc := ⟨.hbm, 185, rfl⟩
abbrev main_while0b_v107 : Ref sig .tc := ⟨.hbm, 186, rfl⟩
abbrev main_while0b_v108 : Ref sig .tc := ⟨.hbm, 187, rfl⟩
abbrev main_while0b_cst_23 : Ref sig .tc := ⟨.hbm, 188, rfl⟩
abbrev main_while0b_v109 : Ref sig .tc := ⟨.hbm, 189, rfl⟩
abbrev main_while0b_v110 : Ref sig .tc := ⟨.hbm, 190, rfl⟩
abbrev main_while0b_cst_24 : Ref sig .tc := ⟨.hbm, 191, rfl⟩
abbrev main_while0b_v111 : Ref sig .tc := ⟨.hbm, 192, rfl⟩
abbrev main_while0b_v112 : Ref sig .tc := ⟨.hbm, 193, rfl⟩
abbrev main_while0b_c_25 : Ref sig .tc := ⟨.hbm, 194, rfl⟩
abbrev main_while0b_call6_cst : Ref sig .tc := ⟨.hbm, 195, rfl⟩
abbrev main_while0b_call6_v0 : Ref sig .tc := ⟨.hbm, 196, rfl⟩
abbrev main_while0b_call6_v1 : Ref sig .tc := ⟨.hbm, 197, rfl⟩
abbrev main_while0b_call6_cst_0 : Ref sig .tc := ⟨.hbm, 198, rfl⟩
abbrev main_while0b_call6_v2 : Ref sig .tc := ⟨.hbm, 199, rfl⟩
abbrev main_while0b_call6_v3 : Ref sig .tc := ⟨.hbm, 200, rfl⟩
abbrev main_while0b_call6_v4 : Ref sig .tc := ⟨.hbm, 201, rfl⟩
abbrev main_while0b_call6_v5 : Ref sig .tc := ⟨.hbm, 202, rfl⟩
abbrev main_while0b_call6_v6 : Ref sig .tc := ⟨.hbm, 203, rfl⟩
abbrev main_while0b_call6_v7 : Ref sig .tc := ⟨.hbm, 204, rfl⟩
abbrev main_while0b_call6_cst_1 : Ref sig .tc := ⟨.hbm, 205, rfl⟩
abbrev main_while0b_call6_v8 : Ref sig .tc := ⟨.hbm, 206, rfl⟩
abbrev main_while0b_call6_cst_2 : Ref sig .tc := ⟨.hbm, 207, rfl⟩
abbrev main_while0b_call6_v9 : Ref sig .tc := ⟨.hbm, 208, rfl⟩
abbrev main_while0b_call6_v10 : Ref sig .tc := ⟨.hbm, 209, rfl⟩
abbrev main_while0b_call6_v11 : Ref sig .tc := ⟨.hbm, 210, rfl⟩
abbrev main_while0b_call6_v12 : Ref sig .tc := ⟨.hbm, 211, rfl⟩
abbrev main_while0b_call6_cst_3 : Ref sig .tc := ⟨.hbm, 212, rfl⟩
abbrev main_while0b_call6_v13 : Ref sig .tc := ⟨.hbm, 213, rfl⟩
abbrev main_while0b_call6_cst_4 : Ref sig .tc := ⟨.hbm, 214, rfl⟩
abbrev main_while0b_call6_call0_v0 : Ref sig .tc := ⟨.hbm, 215, rfl⟩
abbrev main_while0b_call6_call0_v1 : Ref sig .tc := ⟨.hbm, 216, rfl⟩
abbrev main_while0b_v113 : Ref sig .tc := ⟨.hbm, 217, rfl⟩
abbrev main_while0b_cst_26 : Ref sig .tc := ⟨.hbm, 218, rfl⟩
abbrev main_while0b_v114 : Ref sig .tc := ⟨.hbm, 219, rfl⟩
abbrev main_while0b_v115 : Ref sig .tc := ⟨.hbm, 220, rfl⟩
abbrev main_while0b_v116 : Ref sig .tc := ⟨.hbm, 221, rfl⟩
abbrev main_while0b_v117 : Ref sig .tc := ⟨.hbm, 222, rfl⟩
abbrev main_while0b_v118 : Ref sig .tc := ⟨.hbm, 223, rfl⟩
abbrev main_while0b_v119 : Ref sig .tc := ⟨.hbm, 224, rfl⟩
abbrev main_while0b_v120 : Ref sig .tc := ⟨.hbm, 225, rfl⟩
abbrev main_while0b_v121 : Ref sig .tc := ⟨.hbm, 226, rfl⟩
abbrev main_while0b_v122 : Ref sig .tc := ⟨.hbm, 227, rfl⟩
abbrev main_while0b_v123 : Ref sig .tc := ⟨.hbm, 228, rfl⟩
abbrev main_while0b_cst_27 : Ref sig .tc := ⟨.hbm, 229, rfl⟩
abbrev main_while0b_v124 : Ref sig .tc := ⟨.hbm, 230, rfl⟩
abbrev main_while0b_v125 : Ref sig .tc := ⟨.hbm, 231, rfl⟩
abbrev main_while0b_cst_28 : Ref sig .tc := ⟨.hbm, 232, rfl⟩
abbrev main_while0b_v126 : Ref sig .tc := ⟨.hbm, 233, rfl⟩
abbrev main_while0b_v127 : Ref sig .tc := ⟨.hbm, 234, rfl⟩
abbrev main_while0b_v128 : Ref sig .tc := ⟨.hbm, 235, rfl⟩
abbrev main_while0b_v129 : Ref sig .tc := ⟨.hbm, 236, rfl⟩
abbrev main_while0b_v130 : Ref sig .tc := ⟨.hbm, 237, rfl⟩
abbrev main_while0b_cst_29 : Ref sig .tc := ⟨.hbm, 238, rfl⟩
abbrev main_while0b_v131 : Ref sig .tc := ⟨.hbm, 239, rfl⟩
abbrev main_while0b_v132 : Ref sig .tc := ⟨.hbm, 240, rfl⟩
abbrev main_while0b_cst_30 : Ref sig .tc := ⟨.hbm, 241, rfl⟩
abbrev main_while0b_v133 : Ref sig .tc := ⟨.hbm, 242, rfl⟩
abbrev main_while0b_v134 : Ref sig .tc := ⟨.hbm, 243, rfl⟩
abbrev main_while0b_v135 : Ref sig .tc := ⟨.hbm, 244, rfl⟩
abbrev main_while0b_v136 : Ref sig .tc := ⟨.hbm, 245, rfl⟩
abbrev main_while0b_v137 : Ref sig .tc := ⟨.hbm, 246, rfl⟩
abbrev main_while0b_v138 : Ref sig .tc := ⟨.hbm, 247, rfl⟩
abbrev main_while0b_v139 : Ref sig .tc := ⟨.hbm, 248, rfl⟩
abbrev main_while0b_v140 : Ref sig .tc := ⟨.hbm, 249, rfl⟩
abbrev main_while0b_v141 : Ref sig .tc := ⟨.hbm, 250, rfl⟩
abbrev main_while0b_v142 : Ref sig .tc := ⟨.hbm, 251, rfl⟩
abbrev main_while0b_v143 : Ref sig .tc := ⟨.hbm, 252, rfl⟩
abbrev main_while0b_cst_31 : Ref sig .tc := ⟨.hbm, 253, rfl⟩
abbrev main_while0b_call7_v0 : Ref sig .tc := ⟨.hbm, 254, rfl⟩
abbrev main_while0b_call7_v1 : Ref sig .tc := ⟨.hbm, 255, rfl⟩
abbrev main_while0b_call7_v2 : Ref sig .tc := ⟨.hbm, 256, rfl⟩
abbrev main_while0b_v144 : Ref sig .tc := ⟨.hbm, 257, rfl⟩
abbrev main_while0b_v145 : Ref sig .tc := ⟨.hbm, 258, rfl⟩
abbrev main_while0b_v146 : Ref sig .tc := ⟨.hbm, 259, rfl⟩
abbrev main_while0b_v147 : Ref sig .tc := ⟨.hbm, 260, rfl⟩
abbrev main_while0b_cst_32 : Ref sig .tc := ⟨.hbm, 261, rfl⟩
abbrev main_while0b_v148 : Ref sig .tc := ⟨.hbm, 262, rfl⟩
abbrev main_while0b_v149 : Ref sig .tc := ⟨.hbm, 263, rfl⟩
abbrev main_while0b_cst_33 : Ref sig .tc := ⟨.hbm, 264, rfl⟩
abbrev main_while0b_v150 : Ref sig .tc := ⟨.hbm, 265, rfl⟩
abbrev main_while0b_v151 : Ref sig .tc := ⟨.hbm, 266, rfl⟩
abbrev main_while0b_c_34 : Ref sig .tc := ⟨.hbm, 267, rfl⟩
abbrev main_while0b_call8_cst : Ref sig .tc := ⟨.hbm, 268, rfl⟩
abbrev main_while0b_call8_v0 : Ref sig .tc := ⟨.hbm, 269, rfl⟩
abbrev main_while0b_call8_v1 : Ref sig .tc := ⟨.hbm, 270, rfl⟩
abbrev main_while0b_call8_cst_0 : Ref sig .tc := ⟨.hbm, 271, rfl⟩
abbrev main_while0b_call8_v2 : Ref sig .tc := ⟨.hbm, 272, rfl⟩
abbrev main_while0b_call8_v3 : Ref sig .tc := ⟨.hbm, 273, rfl⟩
abbrev main_while0b_call8_v4 : Ref sig .tc := ⟨.hbm, 274, rfl⟩
abbrev main_while0b_call8_v5 : Ref sig .tc := ⟨.hbm, 275, rfl⟩
abbrev main_while0b_call8_v6 : Ref sig .tc := ⟨.hbm, 276, rfl⟩
abbrev main_while0b_call8_v7 : Ref sig .tc := ⟨.hbm, 277, rfl⟩
abbrev main_while0b_call8_cst_1 : Ref sig .tc := ⟨.hbm, 278, rfl⟩
abbrev main_while0b_call8_v8 : Ref sig .tc := ⟨.hbm, 279, rfl⟩
abbrev main_while0b_call8_cst_2 : Ref sig .tc := ⟨.hbm, 280, rfl⟩
abbrev main_while0b_call8_v9 : Ref sig .tc := ⟨.hbm, 281, rfl⟩
abbrev main_while0b_call8_v10 : Ref sig .tc := ⟨.hbm, 282, rfl⟩
abbrev main_while0b_call8_v11 : Ref sig .tc := ⟨.hbm, 283, rfl⟩
abbrev main_while0b_call8_v12 : Ref sig .tc := ⟨.hbm, 284, rfl⟩
abbrev main_while0b_call8_cst_3 : Ref sig .tc := ⟨.hbm, 285, rfl⟩
abbrev main_while0b_call8_v13 : Ref sig .tc := ⟨.hbm, 286, rfl⟩
abbrev main_while0b_call8_cst_4 : Ref sig .tc := ⟨.hbm, 287, rfl⟩
abbrev main_while0b_call8_call0_v0 : Ref sig .tc := ⟨.hbm, 288, rfl⟩
abbrev main_while0b_call8_call0_v1 : Ref sig .tc := ⟨.hbm, 289, rfl⟩
abbrev main_while0b_v152 : Ref sig .tc := ⟨.hbm, 290, rfl⟩
abbrev main_while0b_v153 : Ref sig .tc := ⟨.hbm, 291, rfl⟩
abbrev main_while0b_v154 : Ref sig .tc := ⟨.hbm, 292, rfl⟩
abbrev main_while0b_cst_35 : Ref sig .tc := ⟨.hbm, 293, rfl⟩
abbrev main_while0b_v155 : Ref sig .tc := ⟨.hbm, 294, rfl⟩
abbrev main_while0b_v156 : Ref sig .tc := ⟨.hbm, 295, rfl⟩
abbrev main_while0b_v157 : Ref sig .tc := ⟨.hbm, 296, rfl⟩
abbrev main_while0b_v158 : Ref sig .tc := ⟨.hbm, 297, rfl⟩
abbrev main_while0b_v159 : Ref sig .tc := ⟨.hbm, 298, rfl⟩
abbrev main_while0b_v160 : Ref sig .tc := ⟨.hbm, 299, rfl⟩
abbrev main_while0b_v161 : Ref sig .tc := ⟨.hbm, 300, rfl⟩
abbrev main_while0b_v162 : Ref sig .tc := ⟨.hbm, 301, rfl⟩
abbrev main_while0b_v163 : Ref sig .tc := ⟨.hbm, 302, rfl⟩
abbrev main_while0b_v164 : Ref sig .tc := ⟨.hbm, 303, rfl⟩
abbrev main_while0b_v165 : Ref sig .tc := ⟨.hbm, 304, rfl⟩
abbrev main_while0b_v166 : Ref sig .tc := ⟨.hbm, 305, rfl⟩
abbrev main_while0b_v167 : Ref sig .tc := ⟨.hbm, 306, rfl⟩
abbrev main_while0b_v168 : Ref sig .tc := ⟨.hbm, 307, rfl⟩
abbrev main_while0b_call9_v0 : Ref sig .tc := ⟨.hbm, 308, rfl⟩
abbrev main_while0b_call9_c : Ref sig .tc := ⟨.hbm, 309, rfl⟩
abbrev main_while0b_call9_c_0 : Ref sig .tc := ⟨.hbm, 310, rfl⟩
abbrev main_while0b_call9_c_1 : Ref sig .tc := ⟨.hbm, 311, rfl⟩
abbrev main_while0b_call9_c_2 : Ref sig .tc := ⟨.hbm, 312, rfl⟩
abbrev main_while0b_v169 : Ref sig .tc := ⟨.hbm, 313, rfl⟩
abbrev main_while0b_c_36 : Ref sig .tc := ⟨.hbm, 314, rfl⟩
abbrev main_while0b_v170 : Ref sig .tc := ⟨.hbm, 315, rfl⟩
abbrev main_v76 : Ref sig .tc := ⟨.hbm, 316, rfl⟩
abbrev main_v77 : Ref sig .tc := ⟨.hbm, 317, rfl⟩
abbrev main_v78 : Ref sig .tc := ⟨.hbm, 318, rfl⟩
abbrev main_v79 : Ref sig .tc := ⟨.hbm, 319, rfl⟩
abbrev main_v80 : Ref sig .tc := ⟨.hbm, 320, rfl⟩
abbrev main_v81 : Ref sig .tc := ⟨.hbm, 321, rfl⟩

abbrev nD : Nat := 1
abbrev τ : Topo := Topo.v7x

variable {F : FTy → Type} [FloatOps F]

abbrev main_while0_count : Scf.Loop 32 := ⟨0#32, 128#32, 1#32⟩
-- ==== Proof.RefRun.lean ====
/- The reference's run, restated over one trip of its loop (Gen/ReferenceIdeal/Step.lean): each carried
   buffer after k trips is the k-th state of the sequence that starts at the loop's entry state and goes
   on by the generated `step`. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- Buffer contents `V0` agree with state `s` before trip `j`: the carried arrays, the counter, the mask. -/
structure At (V0 : Valuation τ sig (Elt F)) (s : State F) (j : ℕ) : Prop where
  w : V0 (Proc.devRef .tc main_v75_8) = s.main_v75_8
  z : V0 (Proc.devRef .tc main_v75_9) = s.main_v75_9
  k : V0 (Proc.devRef .tc main_v75_0) = s.main_v75_0
  v : V0 (Proc.devRef .tc main_v75_1) = s.main_v75_1
  q : V0 (Proc.devRef .tc main_v75_2) = s.main_v75_2
  e : V0 (Proc.devRef .tc main_v75_3) = s.main_v75_3
  lw : V0 (Proc.devRef .tc main_v75_4) = s.main_v75_4
  lb : V0 (Proc.devRef .tc main_v75_5) = s.main_v75_5
  n : V0 (Proc.devRef .tc main_v75_7) = constantI S_ 32 (BitVec.ofNat 32 j)
  mask : V0 (Proc.devRef .tc main_v75_6) = Step.K_main_v73 (F := F)

variable {V0 : Valuation τ sig (Elt F)} {s : State F} {j : ℕ}

set_option maxRecDepth 65536 in
set_option maxHeartbeats 1000000 in
/-- One trip makes of the fast weights what `step` says. -/
theorem trip_w (h : At V0 s j) : step_main_v75_8 V0 = Step.b192 j s := by
  simp only [step_main_v75_8, res_main_while0b_call5_v5,res_main_while0b_call5_v8,res_main_while0b_call6_v5,res_main_while0b_call6_v8,res_main_while0b_call8_v5,res_main_while0b_call8_v8,res_main_while0b_v116,res_main_while0b_v120,res_main_while0b_v123,res_main_while0b_v143,res_main_while0b_v147,res_main_while0b_v82,res_main_while0b_v84,res_main_while0b_v86, h.w, h.z, h.k, h.v, h.q, h.e, h.lw, h.lb, h.n, h.mask]
  rfl

set_option maxRecDepth 65536 in
set_option maxHeartbeats 1000000 in
/-- One trip makes of the collected rows what `step` says. -/
theorem trip_z (h : At V0 s j) : step_main_v75_9 V0 = Step.b198 j s := by
  simp only [step_main_v75_9, res_main_while0b_call5_v5,res_main_while0b_call5_v8,res_main_while0b_call6_v5,res_main_while0b_call6_v8,res_main_while0b_call8_v5,res_main_while0b_call8_v8,res_main_while0b_v116,res_main_while0b_v120,res_main_while0b_v123,res_main_while0b_v143,res_main_while0b_v147,res_main_while0b_v82,res_main_while0b_v84,res_main_while0b_v86, h.w, h.z, h.k, h.v, h.q, h.e, h.lw, h.lb, h.n, h.mask]
  rfl

/-- One trip takes the counter to the next number. -/
theorem trip_n (h : At V0 s j) : step_main_v75_7 V0 = constantI S_ 32 (BitVec.ofNat 32 (j + 1)) := by
  unfold step_main_v75_7
  rw [h.n]
  funext i
  show BitVec.ofNat 32 j + 1#32 = BitVec.ofNat 32 (j + 1)
  rw [BitVec.ofNat_add]

/-- One trip carries the agreement from state `s` to `step j s`. -/
theorem At.trip (h : At V0 s j) : At (STEP V0) (step j s) (j + 1) where
  w := (STEP_main_v75_8 V0).trans (trip_w h)
  z := (STEP_main_v75_9 V0).trans (trip_z h)
  n := (STEP_main_v75_7 V0).trans (trip_n h)
  mask := (STEP_main_v75_6 V0).trans h.mask
  k := (STEP_main_v75_0 V0).trans h.k
  v := (STEP_main_v75_1 V0).trans h.v
  q := (STEP_main_v75_2 V0).trans h.q
  e := (STEP_main_v75_3 V0).trans h.e
  lw := (STEP_main_v75_4 V0).trans h.lw
  lb := (STEP_main_v75_5 V0).trans h.lb

variable (m : (ℓ : Loc nD τ sig) → Buf (Elt F) ℓ) (c : Dev nD)

/-- The state before the first trip, from the arguments in memory. -/
abbrev start : State F :=
  init (m ((c.tc : Thread nD τ).loc main_arg1)) (m ((c.tc : Thread nD τ).loc main_arg7)) (m ((c.tc : Thread nD τ).loc main_arg8)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg6))

set_option maxRecDepth 65536 in
set_option maxHeartbeats 2000000 in
/-- The operations before the loop leave the start state. -/
theorem at_start : At (entryContents preI m c) (start m c) 0 := by
  constructor
  case w => (simp only [entryContents, afterL_cons, afterL_nil]; after_reads_simp) <;> rfl
  case z => (simp only [entryContents, afterL_cons, afterL_nil]; after_reads_simp) <;> rfl
  case lw => (simp only [entryContents, afterL_cons, afterL_nil]; after_reads_simp) <;> rfl
  case lb => (simp only [entryContents, afterL_cons, afterL_nil]; after_reads_simp) <;> rfl
  case n => (simp only [entryContents, afterL_cons, afterL_nil]; after_reads_simp) <;> rfl
  case v => (simp only [entryContents, afterL_cons, afterL_nil]; after_reads_simp) <;> rfl
  case e => (simp only [entryContents, afterL_cons, afterL_nil]; after_reads_simp) <;> rfl
  all_goals
    simp only [entryContents, afterL_cons, afterL_nil]
    after_reads_simp
    simp only [start, init, Step.A_main_v0,Step.A_main_v1,Step.A_main_v2,Step.A_main_v3,Step.A_main_v4,Step.A_main_v5,Step.A_main_v6,Step.A_main_v7,Step.A_main_v8,Step.A_main_v9,Step.A_main_v10,Step.A_main_v11,Step.A_main_v35,Step.A_main_v36,Step.A_main_v37,Step.A_main_v38,Step.A_main_v39,Step.A_main_v41,Step.A_main_v42,Step.A_main_v44,Step.A_main_v45,Step.A_main_v46,Step.A_main_v47,Step.A_main_v48,Step.A_main_v50,Step.A_main_v51,Step.A_main_v52,Step.A_main_v53,Step.A_main_v54,Step.A_main_v55,Step.A_main_v57,Step.A_main_v59,Step.A_main_v61,Step.A_main_v62,Step.A_main_v63,Step.A_main_v64,Step.A_main_v65,Step.A_main_v66,Step.A_main_v67,Step.A_main_v68,Step.A_main_v69,Step.A_main_v70,Step.A_main_v71, Step.K_main_v12,Step.K_main_v13,Step.K_main_cst,Step.K_main_v14,Step.K_main_v15,Step.K_main_cst_0,Step.K_main_v16,Step.K_main_v17,Step.K_main_cst_1,Step.K_main_v18,Step.K_main_v19,Step.K_main_cst_2,Step.K_main_v20,Step.K_main_v21,Step.K_main_cst_3,Step.K_main_v22,Step.K_main_v23,Step.K_main_v24,Step.K_main_v25,Step.K_main_v26,Step.K_main_v27,Step.K_main_v28,Step.K_main_v29,Step.K_main_v30,Step.K_main_v31,Step.K_main_v32,Step.K_main_v33,Step.K_main_v34,Step.K_main_v40,Step.K_main_v43,Step.K_main_v49,Step.K_main_cst_4,Step.K_main_v56,Step.K_main_cst_5,Step.K_main_v58,Step.K_main_cst_6,Step.K_main_v60,Step.K_main_c,Step.K_main_v72,Step.K_main_call0_v0,Step.K_main_call0_c,Step.K_main_call0_v1,Step.K_main_call0_v2,Step.K_main_call0_v3,Step.K_main_call0_v4,Step.K_main_call0_c_0,Step.K_main_call0_v5,Step.K_main_v73,Step.K_main_cst_7,Step.K_main_v74,Step.K_main_c_8, id_eq, launchContents]
    congr 4

/-- The sequence of states the loop runs through. -/
def it : ℕ → State F
  | 0 => start m c
  | n + 1 => step n (it n)

/-- Before trip `k` the buffers agree with state number `k`. -/
theorem at_iter : ∀ k, At (STEP^[k] (entryContents preI m c)) (it m c k) k
  | 0 => at_start m c
  | k + 1 => by
    rw [Function.iterate_succ_apply']
    exact (at_iter k).trip

/-- The first result, made by the operations after the loop, over the last state. -/
theorem out_eq (h : At V0 s j) : out_main_v81 V0 = Step.R_main_v81 s (V0 (Proc.devRef .tc main_arg5)) := by
  unfold out_main_v81 Step.R_main_v81
  rw [h.z]

/-- The run: both results over state number 128, every argument unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v81) = Step.R_main_v81 (it m c 128) (m ((c.tc : Thread nD τ).loc main_arg5))
      ∧ r.2.mem ((c.tc : Thread nD τ).loc main_v75_8) = (it m c 128).main_v75_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2⟩ := h c
  have hk := at_iter m c 128
  exact ⟨h0.trans ((out_eq hk).trans (by rw [iter_main_arg5])), h1.trans hk.w, h2⟩

end Cert.ReferenceIdeal.RefRun

end
-- ==== Proof.Frames.lean ====
/- The frame of each program: it ends, leaves its arguments as they were and every semaphore at zero. -/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.SL.Sem

/-- The kernel's frame. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The idealized reference's frame: its run, and it declares no semaphore. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.RefRun.run (F := Ideal) m ρ)

end Cert.Proof

end
-- ==== Proof.Head.lean ====
/-
  ONE HEAD, ONE CHUNK of the layer, over the extended reals: the state `W` (64 × 64), a chunk's 16 rows of keys, values
  and queries, its step sizes, and the head's scale and shift of the normalisation. Both programs run this step; the
  other modules show it for each of them.
-/
module

public import Idealize.ShloMosaic.PureOps.Ideal

@[expose] public section

noncomputable section

namespace Cert.Proof.Head

open Idealize.ShloMosaic
open scoped BigOperators

/-- A row of 64 lanes. -/
abbrev Row := Fin 64 → EReal

/-- The number of lanes, 64, as both programs spell it. -/
def lanes : EReal := Ideal.ofBits .f32 0x42800000#32
/-- The normalisation's small constant. -/
def eps : EReal := Ideal.ofBits .f32 0x3727C5AC#32
/-- The factor 2 / 16 of the inner gradient. -/
def rate : EReal := Ideal.ofBits .f32 0x3E000000#32

/-- A row's mean. -/
def mean (a : Row) : EReal := Ideal.div (∑ d, a d) lanes
/-- A row less its mean. -/
def cen (a : Row) : Row := fun d => a d - mean a
/-- The reciprocal standard deviation of a row. -/
def inv (a : Row) : EReal := Ideal.rsqrt (mean (fun d => cen a d * cen a d) + eps)
/-- The row normalised. -/
def hat (a : Row) : Row := fun d => cen a d * inv a
/-- The row normalised, scaled and shifted. -/
def norm (a lw lb : Row) : Row := fun d => hat a d * lw d + lb d
/-- The gradient at the normalised row, times the scale: `tk` is the prediction for key `k` and value `v`. -/
def dx (tk k v lw lb : Row) : Row := fun d => rate * (k d + norm tk lw lb d - v d) * lw d
/-- The gradient pulled back through the normalisation. -/
def pull (tk k v lw lb : Row) : Row := fun d =>
  (dx tk k v lw lb d - mean (dx tk k v lw lb) - hat tk d * mean (fun x => dx tk k v lw lb x * hat tk x)) * inv tk

/-- A row times the state's transpose. -/
def proj (W : Fin 64 → Row) (k : Row) : Row := fun e => ∑ d, k d * W e d
/-- The update rows of a chunk: the pulled-back gradient of each row times its step size. -/
def upd (W : Fin 64 → Row) (K V : Fin 16 → Row) (η : Fin 16 → Row) (lw lb : Row) : Fin 16 → Row := fun t d =>
  pull (proj W (K t)) (K t) (V t) lw lb d * η t d
/-- The query rows through the state as the earlier rows of the chunk have moved it. -/
def look (W : Fin 64 → Row) (K Q : Fin 16 → Row) (U : Fin 16 → Row) : Fin 16 → Row := fun t e =>
  proj W (Q t) e - ∑ s : Fin 16, if s < t then (∑ d, Q t d * K s d) * U s e else 0
/-- The chunk's output rows. -/
def out (W : Fin 64 → Row) (K Q : Fin 16 → Row) (U : Fin 16 → Row) (lw lb : Row) : Fin 16 → Row := fun t d =>
  Q t d + norm (look W K Q U t) lw lb d
/-- The state after the chunk. -/
def next (W : Fin 64 → Row) (K U : Fin 16 → Row) : Fin 64 → Row := fun i j => W i j - ∑ t : Fin 16, U t i * K t j

/-- The programs' mask, "row above column" on 32-bit row and column numbers, as a comparison of numbers. -/
theorem select_sgt (t s : Fin 16) (x y : EReal) :
    Scalar.select (IntOp.cmpi CmpIPredicate.sgt (BitVec.ofNat 32 (t : ℕ)) (BitVec.ofNat 32 (s : ℕ))) x y = if s < t then x else y := by
  have h : ∀ t s : Fin 16, IntOp.cmpi CmpIPredicate.sgt (BitVec.ofNat 32 (t : ℕ)) (BitVec.ofNat 32 (s : ℕ)) = if s < t then 1#1 else 0#1 := by
    decide +kernel
  rw [h]
  split <;> rfl

end Cert.Proof.Head
-- ==== Proof.Block.lean ====
/-
  WHAT ONE GRID POINT OF THE KERNEL COMPUTES, as functions of its blocks, index by index: two batch rows of 16 time
  steps and 16 heads, each head the step of `Head`. Head `h` of batch row `b` has its state in row `16·b + h` of the
  state block, and its row of time `t` is row `256·b + 16·t + h` of the flattened operands.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import proofs.«01_k».proof.Proof.Head

@[expose] public section

set_option maxRecDepth 16384

noncomputable section

namespace Cert.Proof.Block

open Idealize.ShloMosaic Idealize.ShloMosaic.TcCoe Idealize.ShloMosaic.Tactic Cert.KernelIdeal Cert.KernelIdeal.Gen
open scoped BigOperators

/-- A block of chunk rows, a state block, a flattened operand. -/
abbrev Rows := Vec Ideal S2x16x16x64 .f32
abbrev States := Vec Ideal S32x64x64 .f32
abbrev Flat := Vec Ideal S512x64 .f32
abbrev Steps := Vec Ideal S1x1x512x64 .f32

/-- Row `(b, t, h)` of the flattened operands. -/
def fl (b : Fin 2) (t h : Fin 16) : Fin 512 := ⟨b.val * 256 + t.val * 16 + h.val, by omega⟩
/-- Row `(b, h)` of the state block. -/
def hd (b : Fin 2) (h : Fin 16) : Fin 32 := ⟨b.val * 16 + h.val, by omega⟩

/-- A block's row; head's rows; a state of the block; a flattened row. -/
def row (x : Rows) (b : Fin 2) (h t : Fin 16) : Head.Row := fun d => x (ix4 b t h d)
def st (w : States) (b : Fin 2) (h : Fin 16) : Fin 64 → Head.Row := fun e d => w (ix3 (hd b h) e d)
def frow (x : Flat) (b : Fin 2) (h t : Fin 16) : Head.Row := fun d => x (ix2 (fl b t h) d)
def erow (x : Steps) (b : Fin 2) (h t : Fin 16) : Head.Row := fun d => x (ix4 0 0 (fl b t h) d)

/-- The block whose row `(b, t, h)` is `f b h t`. -/
def mk (f : Fin 2 → Fin 16 → Fin 16 → Head.Row) : Rows := fun y => f (y 0) (y 2) (y 1) (y 3)
theorem mk_apply (f : Fin 2 → Fin 16 → Fin 16 → Head.Row) (b : Fin 2) (t h : Fin 16) (d : Fin 64) :
    mk f (ix4 b t h d) = f b h t d := rfl
theorem row_mk (f : Fin 2 → Fin 16 → Fin 16 → Head.Row) (b : Fin 2) (h t : Fin 16) : row (mk f) b h t = f b h t := rfl

/-- The predictions: every key row through its head's state. -/
def TK (k : Rows) (w : States) : Rows := mk fun b h t => Head.proj (st w b h) (row k b h t)
/-- The update rows, from the predictions. -/
def UE (tk k v : Rows) (e : Steps) (lw lb : Flat) : Rows := mk fun b h t d =>
  Head.pull (row tk b h t) (row k b h t) (row v b h t) (frow lw b h t) (frow lb b h t) d * erow e b h t d
/-- The query rows through the moving state. -/
def TQ (k q ue : Rows) (w : States) : Rows := mk fun b h => Head.look (st w b h) (row k b h) (row q b h) (row ue b h)
/-- The output rows. -/
def ZZ (tq q : Rows) (lw lb : Flat) : Rows := mk fun b h t d =>
  row q b h t d + Head.norm (row tq b h t) (frow lw b h t) (frow lb b h t) d
/-- The states after the chunk. -/
def WF (k ue : Rows) (w : States) : States := fun y =>
  Head.next (st w ⟨(y 0).val / 16, by have := (y 0).isLt; change _ < 32 at this; omega⟩ ⟨(y 0).val % 16, Nat.mod_lt _ (by decide)⟩)
    (row k ⟨(y 0).val / 16, by have := (y 0).isLt; change _ < 32 at this; omega⟩ ⟨(y 0).val % 16, Nat.mod_lt _ (by decide)⟩)
    (row ue ⟨(y 0).val / 16, by have := (y 0).isLt; change _ < 32 at this; omega⟩ ⟨(y 0).val % 16, Nat.mod_lt _ (by decide)⟩) (y 1) (y 2)
theorem WF_apply (k ue : Rows) (w : States) (b : Fin 2) (h : Fin 16) (i j : Fin 64) :
    WF k ue w (ix3 (hd b h) i j) = Head.next (st w b h) (row k b h) (row ue b h) i j := by
  have e1 : (⟨(hd b h).val / 16, by have := (hd b h).isLt; omega⟩ : Fin 2) = b := Fin.ext (by simp only [hd]; omega)
  have e2 : (⟨(hd b h).val % 16, Nat.mod_lt _ (by decide)⟩ : Fin 16) = h := Fin.ext (by simp only [hd]; omega)
  show Head.next (st w ⟨(hd b h).val / 16, _⟩ ⟨(hd b h).val % 16, _⟩) (row k ⟨(hd b h).val / 16, _⟩ ⟨(hd b h).val % 16, _⟩)
    (row ue ⟨(hd b h).val / 16, _⟩ ⟨(hd b h).val % 16, _⟩) i j = _
  rw [e1, e2]

/-! ## The three per-head stores -/

theorem rows_ix (x : S1x16x1x64.Idx) : ∃ t d, x = ix4 0 t 0 d :=
  ⟨x 1, x 3, (eq_ix4 x).trans (by rw [Subsingleton.elim (α := Fin 1) (x 0) 0, Subsingleton.elim (α := Fin 1) (x 2) 0])⟩
theorem state_ix (x : S1x64x64.Idx) : ∃ i j, x = ix3 0 i j :=
  ⟨x 1, x 2, (eq_ix3 x).trans (by rw [Subsingleton.elim (α := Fin 1) (x 0) 0])⟩

section Pieces

variable {b h g : ℕ}
  (ib : ∀ a, (![b, 0, h, 0] : Fin 4 → ℕ) a + S1x16x1x64.size a ≤ S2x16x16x64.size a)
  (ig : ∀ a, (![g, 0, 0] : Fin 3 → ℕ) a + S1x64x64.size a ≤ S32x64x64.size a)

/-- A head's rows of a block. -/
abbrev rowsAt : Rect S2x16x16x64 := Rect.unit ![b, 0, h, 0] S1x16x1x64.size ib
/-- A head's state in the state block. -/
abbrev stateAt : Rect S32x64x64 := Rect.unit ![g, 0, 0] S1x64x64.size ig

include ib in
theorem b_lt : b < 2 := by have := ib 0; simp [Matrix.cons_val_zero, Shape.size] at this; omega
include ib in
theorem h_lt : h < 16 := by have := ib 2; simp [Shape.size] at this; omega

theorem rows_emb (t : Fin 16) (d : Fin 64) :
    (rowsAt ib).emb (ix4 0 t 0 d) = ix4 ⟨b, b_lt ib⟩ t ⟨h, h_lt ib⟩ d := by
  funext a; apply Fin.ext; fin_cases a <;> simp [Rect.emb, Rect.unit, ix4]

theorem state_emb (hg : g = b * 16 + h) (i j : Fin 64) :
    (stateAt ig).emb (ix3 0 i j) = ix3 (hd ⟨b, b_lt ib⟩ ⟨h, h_lt ib⟩) i j := by
  funext a; apply Fin.ext; fin_cases a <;> simp [Rect.emb, Rect.unit, ix3, hd, hg]

/-- The whole block's rectangle takes every index to itself. -/
theorem whole_idx (y : (Rect.unit (s := S2x16x16x64) ![0, 0, 0, 0] S2x16x16x64.size inb_S2x16x16x64_S2x16x16x64_0_0_0_0).shape.Idx) :
    (Rect.unit (s := S2x16x16x64) ![0, 0, 0, 0] S2x16x16x64.size inb_S2x16x16x64_S2x16x16x64_0_0_0_0).emb y = y := by
  funext a; apply Fin.ext; fin_cases a <;> simp [Rect.emb, Rect.unit]

/-- The prediction store of a head. -/
theorem tk_piece (k : Rows) (w : States) (hg : g = b * 16 + h) (x : S1x16x1x64.Idx) :
    k0_pay5 (View.ld k (rowsAt ib)) (View.ld w (stateAt ig)) x = TK k w ((rowsAt ib).emb x) := by
  obtain ⟨t, d, rfl⟩ := rows_ix x
  rw [rows_emb, TK, mk_apply]
  pointwise [k0_pay5]
  subst hg
  rfl

/-- The query store of a head. -/
theorem tq_piece (k q ue : Rows) (w : States) (hg : g = b * 16 + h) (x : S1x16x1x64.Idx) :
    k0_pay54 k0_pay4 (View.ld q (rowsAt ib)) (View.ld k (rowsAt ib)) (View.ld ue (rowsAt ib)) (View.ld w (stateAt ig)) x
      = TQ k q ue w ((rowsAt ib).emb x) := by
  obtain ⟨t, d, rfl⟩ := rows_ix x
  rw [rows_emb, TQ, mk_apply]
  pointwise [k0_pay54, k0_pay4]
  simp only [Head.select_sgt]
  subst hg
  rfl

/-- The state store of a head. -/
theorem wf_piece (k ue : Rows) (w : States) (hg : g = b * 16 + h) (x : S1x64x64.Idx) :
    k0_pay115 (View.ld w (stateAt ig)) (View.ld ue (rowsAt ib)) (View.ld k (rowsAt ib)) x = WF k ue w ((stateAt ig).emb x) := by
  obtain ⟨i, j, rfl⟩ := state_ix x
  rw [state_emb ib ig hg, WF_apply]
  pointwise [k0_pay115]
  subst hg
  rfl

end Pieces

/-! ## The two passes over the whole block -/

/-- Stores of which the LAST `n` are blocks of one function and cover the buffer leave that function. -/
theorem canon_heads {S : Shape} (G : S.Idx → Elt Ideal .f32) (L : List (View.Piece (Elt Ideal) S .f32)) (n : ℕ)
    (h : View.PiecesOf G (L.take n)) (hc : ∀ y, ∃ p ∈ L.take n, y ∈ p.1.set) : View.canon L = G := by
  funext y
  conv_lhs => rw [← List.take_append_drop n L]
  exact View.canon_append_of_piecesOf G _ _ h y (hc y)

/-- The state block as the first chunk copies it. -/
theorem copy_block (w : States) : k0_pay3 w = w := by
  unfold k0_pay3
  exact shapeCast_self _ _

theorem ue_block (tk k v : Rows) (e : Steps) (lw lb : Flat) :
    k0_pay48 lw lb (k0_pay44 k) (k0_pay45 v) (k0_pay46 tk) (k0_pay47 tk) e = UE tk k v e lw lb := by
  funext y
  obtain ⟨b, t, h, d, rfl⟩ : ∃ b t h d, y = ix4 b t h d := ⟨y 0, y 1, y 2, y 3, eq_ix4 y⟩
  rw [UE, mk_apply]
  pointwise [k0_pay48, k0_pay44, k0_pay45, k0_pay46, k0_pay47]
  rfl

theorem zz_block (tq q : Rows) (lw lb : Flat) : k0_pay114 lw lb (k0_pay113 tq) q = ZZ tq q lw lb := by
  funext y
  obtain ⟨b, t, h, d, rfl⟩ : ∃ b t h d, y = ix4 b t h d := ⟨y 0, y 1, y 2, y 3, eq_ix4 y⟩
  rw [ZZ, mk_apply]
  pointwise [k0_pay114, k0_pay113]
  rfl

end Cert.Proof.Block
-- ==== Proof.Chain.lean ====
/-
  ONE HEAD'S WHOLE SEQUENCE: the state after `n` chunks, and the output rows of a chunk, as the recursion that both the
  kernel's grid and the reference's loop run; and one grid point of the kernel as one step of it.
-/
module

public import proofs.«01_k».proof.Proof.Block

@[expose] public section

set_option maxRecDepth 16384

noncomputable section

namespace Cert.Proof

open Idealize.ShloMosaic

/-- What one head of one batch row is given: the state it starts from, its keys, values, queries and step sizes chunk by
    chunk, and the scale and shift of its normalisation. -/
structure Chain where
  W0 : Fin 64 → Head.Row
  K : ℕ → Fin 16 → Head.Row
  V : ℕ → Fin 16 → Head.Row
  Q : ℕ → Fin 16 → Head.Row
  E : ℕ → Fin 16 → Head.Row
  lw : Head.Row
  lb : Head.Row

namespace Chain

variable (I : Chain)

/-- The update rows of chunk `n` from the state `W`. -/
def ups (W : Fin 64 → Head.Row) (n : ℕ) : Fin 16 → Head.Row := Head.upd W (I.K n) (I.V n) (I.E n) I.lw I.lb

/-- The state after `n` chunks. -/
def state : ℕ → Fin 64 → Head.Row
  | 0 => I.W0
  | n + 1 => Head.next (state n) (I.K n) (I.ups (state n) n)

/-- The output rows of chunk `n`. -/
def rows (n : ℕ) : Fin 16 → Head.Row := Head.out (I.state n) (I.K n) (I.Q n) (I.ups (I.state n) n) I.lw I.lb

end Chain

namespace Block

variable {I : Fin 2 → Fin 16 → Chain} {n : ℕ} {k v q : Rows} {e : Steps} {w : States} {lw lb : Flat}
  (hk : ∀ b h t, row k b h t = (I b h).K n t) (hv : ∀ b h t, row v b h t = (I b h).V n t)
  (hq : ∀ b h t, row q b h t = (I b h).Q n t) (he : ∀ b h t, erow e b h t = (I b h).E n t)
  (hw : ∀ b h, st w b h = (I b h).state n)
  (hlw : ∀ b h t, frow lw b h t = (I b h).lw) (hlb : ∀ b h t, frow lb b h t = (I b h).lb)

include hk hv he hw hlw hlb in
/-- The update rows of a block are those of its heads' sequences. -/
theorem ue_chain (b : Fin 2) (h : Fin 16) : row (UE (TK k w) k v e lw lb) b h = (I b h).ups ((I b h).state n) n := by
  funext t d
  show Head.pull (Head.proj (st w b h) (row k b h t)) (row k b h t) (row v b h t) (frow lw b h t) (frow lb b h t) d
    * erow e b h t d = _
  rw [hk, hv, he, hw, hlw, hlb]; rfl

include hk hv he hw hlw hlb in
/-- The states a block leaves are its heads' states one chunk on. -/
theorem w_chain (b : Fin 2) (h : Fin 16) : st (WF k (UE (TK k w) k v e lw lb) w) b h = (I b h).state (n + 1) := by
  funext i j
  show WF k (UE (TK k w) k v e lw lb) w (ix3 (hd b h) i j) = _
  rw [WF_apply, ue_chain hk hv he hw hlw hlb, hw, show row k b h = (I b h).K n from funext (hk b h)]; rfl

include hk hv hq he hw hlw hlb in
/-- The rows a block leaves are its heads' output rows. -/
theorem z_chain (b : Fin 2) (h t : Fin 16) :
    row (ZZ (TQ k q (UE (TK k w) k v e lw lb) w) q lw lb) b h t = (I b h).rows n t := by
  funext d
  show row q b h t d + Head.norm (Head.look (st w b h) (row k b h) (row q b h) (row (UE (TK k w) k v e lw lb) b h) t)
    (frow lw b h t) (frow lb b h t) d = _
  rw [ue_chain hk hv he hw hlw hlb, hw, hlw, hlb, show row k b h = (I b h).K n from funext (hk b h),
    show row q b h = (I b h).Q n from funext (hq b h)]; rfl

end Block

end Cert.Proof

end
-- ==== Proof.CaseA.lean ====
/-
  THE KERNEL'S BODY AT THE FIRST CHUNK: it copies the initial states into the state block and leaves the output rows and the
  state block `Block` names.
-/
module

public import proofs.«01_k».proof.Proof.Block

@[expose] public section

set_option maxRecDepth 16384
set_option maxHeartbeats 1000000

noncomputable section

namespace Cert.Proof.CaseA

open Idealize.ShloMosaic Idealize.ShloMosaic.TcCoe Idealize.ShloMosaic.Tactic Cert.KernelIdeal Cert.KernelIdeal.Gen
open Cert.Proof.Block
open Cert.KernelIdeal.Gen.kernelRun0_A.sl

variable (c : Dev nD) (i : grid0.Coords)
  (arg2 : Memref sig .tc .vmem S2x16x16x64 .f32) (harg2 : arg2.IsWhole) (arg3 : Memref sig .tc .vmem S2x16x16x64 .f32) (harg3 : arg3.IsWhole)
  (arg4 : Memref sig .tc .vmem S2x16x16x64 .f32) (harg4 : arg4.IsWhole) (arg5 : Memref sig .tc .vmem S1x1x512x64 .f32) (harg5 : arg5.IsWhole)
  (arg6 : Memref sig .tc .vmem S32x64x64 .f32) (harg6 : arg6.IsWhole) (arg7 : Memref sig .tc .vmem S512x64 .f32) (harg7 : arg7.IsWhole)
  (arg8 : Memref sig .tc .vmem S512x64 .f32) (harg8 : arg8.IsWhole) (arg9 : Memref sig .tc .vmem S2x16x16x64 .f32) (harg9 : arg9.IsWhole)
  (arg10 : Memref sig .tc .vmem S32x64x64 .f32) (harg10 : arg10.IsWhole) (arg11 : Memref sig .tc .vmem S2x16x16x64 .f32) (harg11 : arg11.IsWhole)
  (arg12 : Memref sig .tc .vmem S2x16x16x64 .f32) (harg12 : arg12.IsWhole) (arg13 : Memref sig .tc .vmem S2x16x16x64 .f32) (harg13 : arg13.IsWhole)
  (x0 x1 x2 : Rows) (x3 : Steps) (x4 : States) (x5 x6 : Flat)

/-- The state block after the copy. -/
theorem w_store : H8_1 c arg6 harg6 x4 = [⟨Rect.unit ![0, 0, 0] S32x64x64.size inb_S32x64x64_S32x64x64_0_0_0, x4⟩] := by
  unfold H8_1
  simp (disch := decide) only [copy_block, View.readAt_eq_ld, Memref.IsWhole.read_unread, View.ld_unit_lit']

/-- A head's state as the body reads it back after the copy. -/
theorem w_read (r : Rect S32x64x64) : arg10.view.readCov (H8_1 c arg6 harg6 x4) r.toLoadRect = View.ld x4 r := by
  rw [w_store]
  exact View.readCov_fill _ _ _ _ _ (by decide)

/-- The 32 prediction stores are the blocks of `TK`. -/
theorem tk_pieces : View.PiecesOf (TK x0 x4) (HS0_32 c arg2 harg2 arg6 harg6 arg10 x0 x4) := by
  unfold HS0_32
  simp only [View.PiecesOf, Cert.KernelIdeal.Gen.kernelRun0_A.sl.r, r_1, r_2, r_3, r_4, r_5, r_6,
    v8, v16, v24, v32, v40, v48, v56, v64, v72, v80, v88, v96, v104, v112, v120, v128, v136, v144, v152, v160, v168, v176, v184, v192, v200, v208, v216, v224, v232, v240, v248, v256,
    w_read, View.readAt_eq_ld, Memref.IsWhole.read_unread]
  repeat' apply And.intro
  all_goals first | exact True.intro | exact fun x => tk_piece _ _ x0 x4 (by decide) x

/-- The predictions as the body reads them back. -/
theorem tk_read : v270 c arg2 harg2 arg6 harg6 arg10 arg11 x0 x4 = TK x0 x4 := by
  unfold v270
  rw [View.readCov_eq_canon']
  funext y
  rw [View.canon_apply_of_pieces (TK x0 x4) _ (tk_pieces c arg2 harg2 arg6 harg6 arg10 x0 x4).mem _
    (View.cover_of_tiledL (s := S2x16x16x64) _ ![1, 16, 1, 64] (by sl_kernel_rfl) _)]
  exact congrArg (TK x0 x4) (whole_idx y)

/-- The update rows as the body stores them. -/
theorem ue_store : HS1_1 c arg2 harg2 arg3 harg3 arg5 harg5 arg6 harg6 arg7 harg7 arg8 harg8 arg10 arg11 x0 x1 x3 x4 x5 x6
    = [⟨Rect.unit ![0, 0, 0, 0] S2x16x16x64.size inb_S2x16x16x64_S2x16x16x64_0_0_0_0, UE (TK x0 x4) x0 x1 x3 x5 x6⟩] := by
  unfold HS1_1
  rw [← ue_block]
  simp (disch := decide) only [r_7, r_8, r_9, r_10, r_11, r_12, tk_read, View.readAt_eq_ld, Memref.IsWhole.read_unread, View.ld_unit_lit']

/-- A head's update rows as the body reads them back. -/
theorem ue_read (r : Rect S2x16x16x64) :
    arg12.view.readCov (HS1_1 c arg2 harg2 arg3 harg3 arg5 harg5 arg6 harg6 arg7 harg7 arg8 harg8 arg10 arg11 x0 x1 x3 x4 x5 x6) r.toLoadRect
      = View.ld (UE (TK x0 x4) x0 x1 x3 x5 x6) r := by
  rw [ue_store]
  exact View.readCov_fill _ _ _ _ _ (by decide)

/-- The 32 query stores are the blocks of `TQ`. -/
theorem tq_pieces : View.PiecesOf (TQ x0 x2 (UE (TK x0 x4) x0 x1 x3 x5 x6) x4)
    (HS2_32 c arg2 harg2 arg3 harg3 arg4 harg4 arg5 harg5 arg6 harg6 arg7 harg7 arg8 harg8 arg10 arg11 arg12 x0 x1 x2 x3 x4 x5 x6) := by
  unfold HS2_32
  simp only [View.PiecesOf, r_13, r_14, r_15, r_16, r_17, r_18, r_19, r_20, r_21, r_22, r_23, r_24, r_25, r_26, r_27, r_28, r_29, r_30, r_31, r_32, r_33, r_34, r_35, r_36, r_37, r_38, r_39, r_40, r_41, r_42,
    v8, v16, v24, v32, v40, v48, v56, v64, v72, v80, v88, v96, v104, v112, v120, v128, v136, v144, v152, v160, v168, v176, v184, v192, v200, v208, v216, v224, v232, v240, v248, v256,
    v325, v342, v359, v376, v393, v410, v427, v444, v461, v468, v478, v495, v512, v529, v546, v563, v580, v597, v614, v631, v648, v665, v682, v699, v716, v733, v750, v767, v784, v801, v818, v835, v852,
    w_read, ue_read, View.readAt_eq_ld, Memref.IsWhole.read_unread]
  repeat' apply And.intro
  all_goals first | exact True.intro | exact fun x => tq_piece _ _ x0 x2 _ x4 (by decide) x

/-- The query rows as the body reads them back. -/
theorem tq_read : v862 c arg2 harg2 arg3 harg3 arg4 harg4 arg5 harg5 arg6 harg6 arg7 harg7 arg8 harg8 arg10 arg11 arg12 arg13 x0 x1 x2 x3 x4 x5 x6
    = TQ x0 x2 (UE (TK x0 x4) x0 x1 x3 x5 x6) x4 := by
  unfold v862
  rw [View.readCov_eq_canon']
  funext y
  rw [View.canon_apply_of_pieces _ _
    (tq_pieces c arg2 harg2 arg3 harg3 arg4 harg4 arg5 harg5 arg6 harg6 arg7 harg7 arg8 harg8 arg10 arg11 arg12 x0 x1 x2 x3 x4 x5 x6).mem _
    (View.cover_of_tiledL (s := S2x16x16x64) _ ![1, 16, 1, 64] (by sl_kernel_rfl) _)]
  exact congrArg _ (whole_idx y)

variable (hc0 : cond0_0 i)

/-- The output rows the body leaves. -/
theorem out_z : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = ZZ (TQ x0 x2 (UE (TK x0 x4) x0 x1 x3 x5 x6) x4) x2 x5 x6 := by
  unfold out0_A_7
  rw [← zz_block]
  unfold kernelRun0_A
  dsimp only
  simp (disch := decide) only [View.read_writes_junk_eq_canon, View.canon_cons_unit_lit', r_7, r_8, r_43, tq_read, View.readAt_eq_ld, Memref.IsWhole.read_unread, View.ld_unit_lit']

/-- The state block the body leaves: its last 32 stores are the heads' new states. -/
theorem out_w : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = WF x0 (UE (TK x0 x4) x0 x1 x3 x5 x6) x4 := by
  unfold out0_A_8
  rw [View.read_writes_junk_eq_canon]
  refine canon_heads _ _ 32 ?_ (View.cover_of_tiledL (s := S32x64x64) _ ![1, 64, 64] (by sl_kernel_rfl))
  unfold kernelRun0_A
  dsimp only
  simp (disch := decide) only [H8_2, H8_3, H8_4, H8_5, H8_6, H8_7, H8_8, H8_9, H8_10, H8_11, H8_12, H8_13, H8_14, H8_15, H8_16, H8_17, H8_18, H8_19, H8_20, H8_21, H8_22, H8_23, H8_24, H8_25, H8_26, H8_27, H8_28, H8_29, H8_30, H8_31, H8_32, List.take_succ_cons, List.take_zero, View.PiecesOf,
    r_44, r_45, r_46, r_47, r_48, r_49, r_50, r_51, r_52, r_53, r_54, r_55, r_56, r_57, r_58, r_59, r_60,
    v8,
    v325, v342, v359, v376, v393, v410, v427, v444, v461, v468, v478, v495, v512, v529, v546, v563, v580, v597, v614, v631, v648, v665, v682, v699, v716, v733, v750, v767, v784, v801, v818, v835, v852,
    v899, v910, v921, v932, v943, v954, v965, v976, v987, v998, v1009, v1020, v1031, v1042, v1053, v1064, v1075, v1086, v1097, v1108, v1119, v1130, v1141, v1152, v1163, v1174, v1185, v1196, v1207, v1218, v1222, v1229, v1231, v1233,
    View.readCov_skip, w_read, ue_read, View.readAt_eq_ld, Memref.IsWhole.read_unread]
  repeat' apply And.intro
  all_goals first | exact True.intro | exact fun x => wf_piece _ _ x0 _ x4 (by decide) x

end Cert.Proof.CaseA
-- ==== Proof.CaseB.lean ====
/-
  THE KERNEL'S BODY AT A LATER CHUNK: it finds the state block the chunk before left and leaves the output rows and the
  state block `Block` names.
-/
module

public import proofs.«01_k».proof.Proof.Block

@[expose] public section

set_option maxRecDepth 16384
set_option maxHeartbeats 1000000

noncomputable section

namespace Cert.Proof.CaseB

open Idealize.ShloMosaic Idealize.ShloMosaic.TcCoe Idealize.ShloMosaic.Tactic Cert.KernelIdeal Cert.KernelIdeal.Gen
open Cert.Proof.Block
open Cert.KernelIdeal.Gen.kernelRun0_B.sl

variable (c : Dev nD) (i : grid0.Coords)
  (arg2 : Memref sig .tc .vmem S2x16x16x64 .f32) (harg2 : arg2.IsWhole) (arg3 : Memref sig .tc .vmem S2x16x16x64 .f32) (harg3 : arg3.IsWhole)
  (arg4 : Memref sig .tc .vmem S2x16x16x64 .f32) (harg4 : arg4.IsWhole) (arg5 : Memref sig .tc .vmem S1x1x512x64 .f32) (harg5 : arg5.IsWhole)
  (arg6 : Memref sig .tc .vmem S32x64x64 .f32) (harg6 : arg6.IsWhole) (arg7 : Memref sig .tc .vmem S512x64 .f32) (harg7 : arg7.IsWhole)
  (arg8 : Memref sig .tc .vmem S512x64 .f32) (harg8 : arg8.IsWhole) (arg9 : Memref sig .tc .vmem S2x16x16x64 .f32) (harg9 : arg9.IsWhole)
  (arg10 : Memref sig .tc .vmem S32x64x64 .f32) (harg10 : arg10.IsWhole) (arg11 : Memref sig .tc .vmem S2x16x16x64 .f32) (harg11 : arg11.IsWhole)
  (arg12 : Memref sig .tc .vmem S2x16x16x64 .f32) (harg12 : arg12.IsWhole) (arg13 : Memref sig .tc .vmem S2x16x16x64 .f32) (harg13 : arg13.IsWhole)
  (x0 x1 x2 : Rows) (x3 : Steps) (x4 : States) (x5 x6 : Flat) (xo8 : States)

/-- The 32 prediction stores are the blocks of `TK`. -/
theorem tk_pieces : View.PiecesOf (TK x0 xo8) (HS0_32 c arg2 harg2 arg10 harg10 x0 xo8) := by
  unfold HS0_32
  simp only [View.PiecesOf, Cert.KernelIdeal.Gen.kernelRun0_B.sl.r, r_1, r_2, r_3, r_4, r_5, r_6, r_7, View.readAt_eq_ld, Memref.IsWhole.read_unread]
  repeat' apply And.intro
  all_goals first | exact True.intro | exact fun x => tk_piece _ _ x0 xo8 (by decide) x

/-- The predictions as the body reads them back. -/
theorem tk_read : v270 c arg2 harg2 arg10 harg10 arg11 x0 xo8 = TK x0 xo8 := by
  unfold v270
  rw [View.readCov_eq_canon']
  funext y
  rw [View.canon_apply_of_pieces (TK x0 xo8) _ (tk_pieces c arg2 harg2 arg10 harg10 x0 xo8).mem _
    (View.cover_of_tiledL (s := S2x16x16x64) _ ![1, 16, 1, 64] (by sl_kernel_rfl) _)]
  exact congrArg (TK x0 xo8) (whole_idx y)

/-- The update rows as the body stores them. -/
theorem ue_store : HS1_1 c arg2 harg2 arg3 harg3 arg5 harg5 arg7 harg7 arg8 harg8 arg10 harg10 arg11 x0 x1 x3 x5 x6 xo8
    = [⟨Rect.unit ![0, 0, 0, 0] S2x16x16x64.size inb_S2x16x16x64_S2x16x16x64_0_0_0_0, UE (TK x0 xo8) x0 x1 x3 x5 x6⟩] := by
  unfold HS1_1
  rw [← ue_block]
  simp (disch := decide) only [r_8, r_9, r_10, r_11, r_12, r_13, tk_read, View.readAt_eq_ld, Memref.IsWhole.read_unread, View.ld_unit_lit']

/-- A head's update rows as the body reads them back. -/
theorem ue_read (r : Rect S2x16x16x64) :
    arg12.view.readCov (HS1_1 c arg2 harg2 arg3 harg3 arg5 harg5 arg7 harg7 arg8 harg8 arg10 harg10 arg11 x0 x1 x3 x5 x6 xo8) r.toLoadRect
      = View.ld (UE (TK x0 xo8) x0 x1 x3 x5 x6) r := by
  rw [ue_store]
  exact View.readCov_fill _ _ _ _ _ (by decide)

/-- The 32 query stores are the blocks of `TQ`. -/
theorem tq_pieces : View.PiecesOf (TQ x0 x2 (UE (TK x0 xo8) x0 x1 x3 x5 x6) xo8)
    (HS2_32 c arg2 harg2 arg3 harg3 arg4 harg4 arg5 harg5 arg7 harg7 arg8 harg8 arg10 harg10 arg11 arg12 x0 x1 x2 x3 x5 x6 xo8) := by
  unfold HS2_32
  simp only [View.PiecesOf, r_14, r_15, r_16, r_17, r_18, r_19, r_20, r_21, r_22, r_23, r_24, r_25, r_26, r_27, r_28, r_29, r_30, r_31, r_32, r_33, r_34, r_35, r_36, r_37, r_38, r_39, r_40, r_41, r_42, r_43, r_44,
    v325, v342, v359, v376, v393, v410, v427, v444, v461, v478, v495, v512, v529, v546, v563, v580, v597, v614, v631, v648, v665, v682, v699, v716, v733, v750, v767, v784, v801, v818, v835, v852,
    ue_read, View.readAt_eq_ld, Memref.IsWhole.read_unread]
  repeat' apply And.intro
  all_goals first | exact True.intro | exact fun x => tq_piece _ _ x0 x2 _ xo8 (by decide) x

/-- The query rows as the body reads them back. -/
theorem tq_read : v862 c arg2 harg2 arg3 harg3 arg4 harg4 arg5 harg5 arg7 harg7 arg8 harg8 arg10 harg10 arg11 arg12 arg13 x0 x1 x2 x3 x5 x6 xo8
    = TQ x0 x2 (UE (TK x0 xo8) x0 x1 x3 x5 x6) xo8 := by
  unfold v862
  rw [View.readCov_eq_canon']
  funext y
  rw [View.canon_apply_of_pieces _ _
    (tq_pieces c arg2 harg2 arg3 harg3 arg4 harg4 arg5 harg5 arg7 harg7 arg8 harg8 arg10 harg10 arg11 arg12 x0 x1 x2 x3 x5 x6 xo8).mem _
    (View.cover_of_tiledL (s := S2x16x16x64) _ ![1, 16, 1, 64] (by sl_kernel_rfl) _)]
  exact congrArg _ (whole_idx y)

variable (hc0 : ¬cond0_0 i)

/-- The output rows the body leaves. -/
theorem out_z : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8
    = ZZ (TQ x0 x2 (UE (TK x0 xo8) x0 x1 x3 x5 x6) xo8) x2 x5 x6 := by
  unfold out0_B_7
  rw [← zz_block]
  unfold kernelRun0_B
  dsimp only
  simp (disch := decide) only [View.read_writes_junk_eq_canon, View.canon_cons_unit_lit', r_8, r_9, r_45, tq_read, View.readAt_eq_ld, Memref.IsWhole.read_unread, View.ld_unit_lit']

/-- The state block the body leaves. -/
theorem out_w : out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8
    = WF x0 (UE (TK x0 xo8) x0 x1 x3 x5 x6) xo8 := by
  have hcov := cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xo8
  unfold out0_B_8
  rw [View.read_writes_junk_eq_canon]
  funext y
  refine View.canon_apply_of_pieces _ _ (View.PiecesOf.mem ?_) y (hcov y)
  unfold kernelRun0_B
  dsimp only
  simp only [View.PiecesOf, r_5, r_32, r_46, r_47, r_48, r_49, r_50, r_51, r_52, r_53, r_54, r_55, r_56, r_57, r_58, r_59, r_60, r_61, r_62,
    v325, v342, v359, v376, v393, v410, v427, v444, v461, v478, v495, v512, v529, v546, v563, v580, v597, v614, v631, v648, v665, v682, v699, v716, v733, v750, v767, v784, v801, v818, v835, v852,
    v899, v910, v921, v932, v943, v954, v965, v976, v987, v998, v1009, v1020, v1031, v1042, v1053, v1064, v1086, v1108, v1119, v1130, v1141, v1152, v1163, v1174, v1185, v1196, v1207, v1218, v1222, v1229, v1231, v1233,
    ue_read, View.readAt_eq_ld, Memref.IsWhole.read_unread]
  repeat' apply And.intro
  all_goals first | exact True.intro | exact fun x => wf_piece _ _ x0 _ xo8 (by decide) x

end Cert.Proof.CaseB
-- ==== Proof.Points.lean ====
/-
  THE KERNEL'S GRID: its point `t` runs chunk `t % 128` of the batch rows `2·(t / 128)` and `2·(t / 128) + 1`, so the
  two blocks it leaves are the rows and the states of its heads' sequences; and the two result arrays after the run.
-/
module

public import proofs.«01_k».proof.Proof.Chain
public import proofs.«01_k».proof.Proof.CaseA
public import proofs.«01_k».proof.Proof.CaseB

@[expose] public section

set_option maxRecDepth 16384

noncomputable section

namespace Cert.Proof.Points

open Idealize.ShloMosaic Idealize.ShloMosaic.TcCoe Idealize.ShloMosaic.Tactic Cert.KernelIdeal Cert.KernelIdeal.Gen
open Idealize.ShloMosaic.Pipeline (Dat)

variable (m : (ℓ : Loc nD τ sig) → Buf (Elt Ideal) ℓ) (c : Dev nD) (I : Fin 4 → Fin 16 → Chain)

/-- The batch row that a point's row `b` of two is, counted by the batch block `i`. -/
def bat (i : ℕ) (b : Fin 2) : Fin 4 := ⟨(2 * i + b.val) % 4, Nat.mod_lt _ (by decide)⟩
/-- The time of row `t` of chunk `n`. -/
def time (n : ℕ) (t : Fin 16) : Fin 2048 := ⟨(16 * n + t.val) % 2048, Nat.mod_lt _ (by decide)⟩
/-- The state row of head `h` of batch row `b`. -/
def hrow (b : Fin 4) (h : Fin 16) : Fin 64 := ⟨b.val * 16 + h.val, by omega⟩

/-- The arrays that the kernel's windows read hold the heads' sequences. -/
structure Fits : Prop where
  k : ∀ b n t h d, n < 128 → V m c main_call0_v49 (ix4 b (time n t) h d) = (I b h).K n t d
  v : ∀ b n t h d, n < 128 → V m c main_call0_v9 (ix4 b (time n t) h d) = (I b h).V n t d
  q : ∀ b n t h d, n < 128 → V m c main_call0_v40 (ix4 b (time n t) h d) = (I b h).Q n t d
  e : ∀ (i : Fin 2) (b : Fin 2) (n : Fin 128) t h d, V m c main_call0_v64 (ix4 i n (Block.fl b t h) d) = (I (bat i.val b) h).E n.val t d
  w : ∀ b h e d, V m c main_call0_v65 (ix3 (hrow b h) e d) = (I b h).W0 e d
  lw : ∀ (b : Fin 2) (t h : Fin 16) d b', V m c main_call0_v68 (ix2 (Block.fl b t h) d) = (I b' h).lw d
  lb : ∀ (b : Fin 2) (t h : Fin 16) d b', V m c main_call0_v71 (ix2 (Block.fl b t h) d) = (I b' h).lb d

/-- Where a point's blocks lie. -/
theorem idx : ∀ t : Fin grid0.N, win0_0.index t = ![t.val / 128, t.val % 128, 0, 0] ∧ win0_1.index t = ![t.val / 128, t.val % 128, 0, 0]
    ∧ win0_2.index t = ![t.val / 128, t.val % 128, 0, 0] ∧ win0_3.index t = ![t.val / 128, t.val % 128, 0, 0]
    ∧ win0_4.index t = ![t.val / 128, 0, 0] ∧ win0_5.index t = ![0, 0] ∧ win0_6.index t = ![0, 0]
    ∧ win0_7.index t = ![t.val / 128, t.val % 128, 0, 0] ∧ win0_8.index t = ![t.val / 128, 0, 0] := by decide +kernel

theorem lt_N (t : Fin cfg0.N) : t.val < 256 := t.isLt

variable {m c I}

section Blocks

variable (F : Fits m c I) (t : Fin cfg0.N)

include F in
theorem k_rows (b : Fin 2) (h s : Fin 16) : Block.row (iblk m c 0 t) b h s = (I (bat (t.val / 128) b) h).K (t.val % 128) s := by
  funext d
  refine Eq.trans ?_ (F.k (bat (t.val / 128) b) (t.val % 128) s h d (Nat.mod_lt _ (by decide)))
  have := lt_N t
  unfold Block.row
  blk_ext [iblk, idx t, bat, time]

include F in
theorem v_rows (b : Fin 2) (h s : Fin 16) : Block.row (iblk m c 1 t) b h s = (I (bat (t.val / 128) b) h).V (t.val % 128) s := by
  funext d
  refine Eq.trans ?_ (F.v (bat (t.val / 128) b) (t.val % 128) s h d (Nat.mod_lt _ (by decide)))
  have := lt_N t
  unfold Block.row
  blk_ext [iblk, idx t, bat, time]

include F in
theorem q_rows (b : Fin 2) (h s : Fin 16) : Block.row (iblk m c 2 t) b h s = (I (bat (t.val / 128) b) h).Q (t.val % 128) s := by
  funext d
  refine Eq.trans ?_ (F.q (bat (t.val / 128) b) (t.val % 128) s h d (Nat.mod_lt _ (by decide)))
  have := lt_N t
  unfold Block.row
  blk_ext [iblk, idx t, bat, time]

include F in
theorem e_rows (b : Fin 2) (h s : Fin 16) : Block.erow (iblk m c 3 t) b h s = (I (bat (t.val / 128) b) h).E (t.val % 128) s := by
  funext d
  have := lt_N t
  refine Eq.trans ?_ (F.e ⟨t.val / 128, by omega⟩ b ⟨t.val % 128, Nat.mod_lt _ (by decide)⟩ s h d)
  unfold Block.erow
  blk_ext [iblk, idx t, Block.fl]

include F in
theorem w_rows (b : Fin 2) (h : Fin 16) : Block.st (iblk m c 4 t) b h = (I (bat (t.val / 128) b) h).W0 := by
  funext i d
  refine Eq.trans ?_ (F.w (bat (t.val / 128) b) h i d)
  have := lt_N t
  unfold Block.st
  blk_ext [iblk, idx t, bat, hrow, Block.hd]

include F in
theorem lw_rows (b : Fin 2) (h s : Fin 16) (b' : Fin 4) : Block.frow (iblk m c 5 t) b h s = (I b' h).lw := by
  funext d
  refine Eq.trans ?_ (F.lw b s h d b')
  unfold Block.frow
  blk_ext [iblk, idx t, Block.fl]

include F in
theorem lb_rows (b : Fin 2) (h s : Fin 16) (b' : Fin 4) : Block.frow (iblk m c 6 t) b h s = (I b' h).lb := by
  funext d
  refine Eq.trans ?_ (F.lb b s h d b')
  unfold Block.frow
  blk_ext [iblk, idx t, Block.fl]

end Blocks

variable (F : Fits m c I)

include F in
/-- What a point's two blocks hold after it. -/
theorem point (n : ℕ) : ∀ hn : n < cfg0.N,
    (∀ b h s, Block.row (outsAt0 m c n hn).1 b h s = (I (bat (n / 128) b) h).rows (n % 128) s)
    ∧ (∀ b h, Block.st (outsAt0 m c n hn).2 b h = (I (bat (n / 128) b) h).state (n % 128 + 1)) := by
  induction n using Nat.strong_induction_on with
  | _ n ih =>
  intro hn
  by_cases h0 : n % 128 = 0
  · have hw : ∀ b h, Block.st (iblk m c 4 ⟨n, hn⟩) b h = (I (bat (n / 128) b) h).state (n % 128) := fun b h => by
      rw [h0]; exact w_rows F ⟨n, hn⟩ b h
    rw [outsAt0_A m c ⟨n, hn⟩ h0, CaseA.out_z, CaseA.out_w]
    exact ⟨Block.z_chain (k_rows F ⟨n, hn⟩) (v_rows F ⟨n, hn⟩) (q_rows F ⟨n, hn⟩) (e_rows F ⟨n, hn⟩) hw
        (fun b h s => lw_rows F _ b h s _) (fun b h s => lb_rows F _ b h s _),
      Block.w_chain (k_rows F ⟨n, hn⟩) (v_rows F ⟨n, hn⟩) (e_rows F ⟨n, hn⟩) hw
        (fun b h s => lw_rows F _ b h s _) (fun b h s => lb_rows F _ b h s _)⟩
  · have hp : n - 1 < cfg0.N := lt_of_le_of_lt (Nat.sub_le _ _) hn
    have hw : ∀ b h, Block.st (outsAt0 m c (n - 1) hp).2 b h = (I (bat (n / 128) b) h).state (n % 128) := fun b h => by
      rw [(ih (n - 1) (by omega) hp).2 b h, show (n - 1) / 128 = n / 128 by omega, show (n - 1) % 128 + 1 = n % 128 by omega]
    rw [outsAt0_B m c ⟨n, hn⟩ h0, CaseB.out_z, CaseB.out_w]
    exact ⟨Block.z_chain (k_rows F ⟨n, hn⟩) (v_rows F ⟨n, hn⟩) (q_rows F ⟨n, hn⟩) (e_rows F ⟨n, hn⟩) hw
        (fun b h s => lw_rows F _ b h s _) (fun b h s => lb_rows F _ b h s _),
      Block.w_chain (k_rows F ⟨n, hn⟩) (v_rows F ⟨n, hn⟩) (e_rows F ⟨n, hn⟩) hw
        (fun b h s => lw_rows F _ b h s _) (fun b h s => lb_rows F _ b h s _)⟩

variable (I) in
/-- The rows array: time `s` of batch row `b` is row `s % 16` of chunk `s / 16`. -/
def zArr : Vec Ideal S4x2048x16x64 .f32 := fun y =>
  (I (y 0) (y 2)).rows ((y 1).val / 16) ⟨(y 1).val % 16, Nat.mod_lt _ (by decide)⟩ (y 3)
variable (I) in
/-- The states array: row `16·b + h` is head `h` of batch row `b` after the last chunk. -/
def wArr : Vec Ideal S64x64x64 .f32 := fun y =>
  (I ⟨(y 0).val / 16, by have := (y 0).isLt; change _ < 64 at this; omega⟩ ⟨(y 0).val % 16, Nat.mod_lt _ (by decide)⟩).state 128 (y 1) (y 2)

include F in
/-- The rows array after the run. -/
theorem arr_z : (dats m 0 c).arrAt 7 cfg0.N = zArr I := by
  refine (dats m 0 c).arrAt_eq_of_covers 7 _ (by decide +kernel) fun t hf y => ?_
  have := lt_N t
  rw [after0_7]
  obtain ⟨b, s, h, d, rfl⟩ : ∃ (b : Fin 2) (s : Fin 16) (h : Fin 16) (d : Fin 64), y = ix4 b s h d := ⟨y 0, y 1, y 2, y 3, eq_ix4 y⟩
  have e := congrFun ((point F t.val t.isLt).1 b h s) d
  refine Eq.trans e ?_
  have e2 : ((cfg0.win 7).blk t).view.emb (ix4 b s h d) = ix4 (bat (t.val / 128) b) (time (t.val % 128) s) h d := by
    blk_ext [idx t, bat, time]
  rw [e2]
  show _ = (I (bat (t.val / 128) b) h).rows ((time (t.val % 128) s).val / 16) ⟨(time (t.val % 128) s).val % 16, _⟩ d
  congr 2
  · simp only [time]; omega
  · apply Fin.ext; simp only [time]; omega

include F in
/-- The states array after the run. -/
theorem arr_w : (dats m 0 c).arrAt 8 cfg0.N = wArr I := by
  refine (dats m 0 c).arrAt_eq_of_covers 8 _ (by decide +kernel) fun t hf y => ?_
  have := lt_N t
  have h127 := (flush0_8 t).mp hf
  rw [after0_8]
  obtain ⟨g, i, d, rfl⟩ : ∃ (g : Fin 32) (i d : Fin 64), y = ix3 g i d := ⟨y 0, y 1, y 2, eq_ix3 y⟩
  have e := congrFun (congrFun ((point F t.val t.isLt).2 ⟨g.val / 16, by omega⟩ ⟨g.val % 16, Nat.mod_lt _ (by decide)⟩) i) d
  have eg : Block.hd ⟨g.val / 16, by omega⟩ ⟨g.val % 16, Nat.mod_lt _ (by decide)⟩ = g := Fin.ext (by simp only [Block.hd]; omega)
  unfold Block.st at e
  rw [eg, h127] at e
  refine Eq.trans e ?_
  have e2 : ((cfg0.win 8).blk t).view.emb (ix3 g i d) = ix3 (⟨t.val / 128 * 32 + g.val, by omega⟩ : Fin 64) i d := by
    blk_ext [idx t]
  rw [e2]
  show _ = (I ⟨(t.val / 128 * 32 + g.val) / 16, _⟩ ⟨(t.val / 128 * 32 + g.val) % 16, _⟩).state 128 i d
  congr 3
  · apply Fin.ext; simp only [bat]; omega
  · omega

end Cert.Proof.Points

end
-- ==== Proof.Inputs.lean ====
/-
  WHAT THE HEADS ARE GIVEN, of the arguments: the linear maps, the rotation of keys and queries by their time, and the
  learned step size, written once; the sequence of one head made of them.
-/
module

public import proofs.«01_k».proof.Proof.Points

@[expose] public section

noncomputable section

namespace Cert.Proof.Inputs

open Idealize.ShloMosaic Cert.KernelIdeal
open scoped BigOperators

/-- Head `h`'s row of the linear map `W` of the input row of batch row `b` at time `t`. -/
def lin (x : Vec Ideal S4x2048x1024 .f32) (W : Vec Ideal S1024x1024 .f32) (b : Fin 4) (t : Fin 2048) (h : Fin 16) : Head.Row :=
  fun d => ∑ j : Fin 1024, x (ix3 b t j) * W (ix2 (⟨h.val * 64 + d.val, by omega⟩ : Fin 1024) j)

/-- The angle of pair `i` at time `t`. -/
def ang (t i : ℕ) : EReal :=
  FloatOps.sitofp (F := Ideal) FTy.f32 (BitVec.ofNat 32 t) * Ideal.div 1 (Ideal.pow (Ideal.ofBits .f32 0x461C4000#32)
    (Ideal.div (Ideal.ofBits .f32 0x40000000#32 * FloatOps.sitofp (F := Ideal) FTy.f32 (BitVec.ofNat 32 i)) (Ideal.ofBits .f32 0x42800000#32)))

/-- A row rotated at time `t`: feature `d` is paired with the feature half a row away. -/
def rope (f : Head.Row) (t : ℕ) : Head.Row := fun d =>
  if h : d.val < 32 then f d * Ideal.cos (ang t d.val) + -f ⟨32 + d.val, by omega⟩ * Ideal.sin (ang t d.val)
  else f d * Ideal.cos (ang t (d.val - 32)) + f ⟨d.val - 32, by omega⟩ * Ideal.sin (ang t (d.val - 32))

/-- The step size of batch row `b` at time `t`. -/
def eta (x : Vec Ideal S4x2048x1024 .f32) (W : Vec Ideal S1x1024 .f32) (b : Fin 4) (t : Fin 2048) : EReal :=
  Ideal.ofBits .f32 0x3C23D70A#32 * Ideal.div 1 (1 + Ideal.exp (-∑ j : Fin 1024, x (ix3 b t j) * W (ix2 0 j)))

variable (x : Vec Ideal S4x2048x1024 .f32) (W0 : Vec Ideal S4x16x64x64 .f32) (wq wk wv : Vec Ideal S1024x1024 .f32)
  (wr : Vec Ideal S1x1024 .f32) (lw lb : Vec Ideal S16x64 .f32)

/-- The sequence of head `h` of batch row `b`. -/
def chain (b : Fin 4) (h : Fin 16) : Chain where
  W0 := fun e d => W0 (ix4 b h e d)
  K := fun n s => rope (lin x wk b (Points.time n s) h) (Points.time n s).val
  V := fun n s => lin x wv b (Points.time n s) h
  Q := fun n s => rope (lin x wq b (Points.time n s) h) (Points.time n s).val
  E := fun n s _ => eta x wr b (Points.time n s)
  lw := fun d => lw (ix2 h d)
  lb := fun d => lb (ix2 h d)

end Cert.Proof.Inputs

end
-- ==== Proof.Entry.lean ====
/-
  WHAT THE KERNEL'S WINDOWS READ: the arrays that the host operations before the launch make of the arguments, index by
  index, hold the heads' sequences.
-/
module

public import proofs.«01_k».proof.Proof.Inputs
public import Idealize.ShloMosaic.Lib.StableHlo.ReadAt

@[expose] public section

set_option maxRecDepth 16384

noncomputable section

namespace Cert.Proof.Entry

open Idealize.ShloMosaic Idealize.ShloMosaic.TcCoe Idealize.ShloMosaic.Tactic Cert.KernelIdeal Cert.KernelIdeal.Gen
open Inputs

variable (m : (ℓ : Loc nD τ sig) → Buf (Elt Ideal) ℓ) (c : Dev nD)

/-- An argument of the kernel. -/
abbrev arg0 : Vec Ideal S4x2048x1024 .f32 := m (c.tc.loc main_arg0)
abbrev arg1 : Vec Ideal S4x16x64x64 .f32 := m (c.tc.loc main_arg1)
abbrev arg2 : Vec Ideal S1024x1024 .f32 := m (c.tc.loc main_arg2)
abbrev arg3 : Vec Ideal S1024x1024 .f32 := m (c.tc.loc main_arg3)
abbrev arg4 : Vec Ideal S1024x1024 .f32 := m (c.tc.loc main_arg4)
abbrev arg5 : Vec Ideal S1024x1024 .f32 := m (c.tc.loc main_arg5)
abbrev arg6 : Vec Ideal S1x1024 .f32 := m (c.tc.loc main_arg6)
abbrev arg7 : Vec Ideal S16x64 .f32 := m (c.tc.loc main_arg7)
abbrev arg8 : Vec Ideal S16x64 .f32 := m (c.tc.loc main_arg8)

theorem div_row (b : Fin 4) (t : Fin 2048) : (b.val * 2048 + t.val) / 2048 = b.val := by omega
theorem mod_row (b : Fin 4) (t : Fin 2048) : (b.val * 2048 + t.val) % 2048 = t.val := by omega

/-- The values' array. -/
theorem v (b : Fin 4) (t : Fin 2048) (h : Fin 16) (d : Fin 64) : V m c main_call0_v9 (ix4 b t h d) = lin (arg0 m c) (arg4 m c) b t h d := by
  unfold V V0
  after_reads_at
  simp only [div_row, mod_row]
  rfl

set_option maxHeartbeats 2000000 in
/-- The keys' array. -/
theorem k (b : Fin 4) (t : Fin 2048) (h : Fin 16) (d : Fin 64) : V m c main_call0_v49 (ix4 b t h d) = rope (lin (arg0 m c) (arg3 m c) b t h) t.val d := by
  unfold V V0 rope
  after_reads_at
  by_cases hd : d.val < 32
  · simp only [dif_pos hd]
    after_reads_at
    simp only [div_row, mod_row]
    rfl
  · simp only [dif_neg hd]
    after_reads_at
    simp only [div_row, mod_row]
    rfl

set_option maxHeartbeats 2000000 in
/-- The queries' array. -/
theorem q (b : Fin 4) (t : Fin 2048) (h : Fin 16) (d : Fin 64) : V m c main_call0_v40 (ix4 b t h d) = rope (lin (arg0 m c) (arg2 m c) b t h) t.val d := by
  unfold V V0 rope
  after_reads_at
  by_cases hd : d.val < 32
  · simp only [dif_pos hd]
    after_reads_at
    simp only [div_row, mod_row]
    rfl
  · simp only [dif_neg hd]
    after_reads_at
    simp only [div_row, mod_row]
    rfl

/-- The step sizes' array. -/
theorem e (i b : Fin 2) (n : Fin 128) (s h : Fin 16) (d : Fin 64) :
    V m c main_call0_v64 (ix4 i n (Block.fl b s h) d) = eta (arg0 m c) (arg6 m c) (Points.bat i.val b) (Points.time n.val s) := by
  unfold V V0
  after_reads_at
  have e1 : (i.val * 4096 + (Block.fl b s h).val / 256 * 2048 + n.val * 16 + (Block.fl b s h).val / 16 % 16) / 2048 = (2 * i.val + b.val) % 4 := by
    simp only [Block.fl]; omega
  have e2 : (i.val * 4096 + (Block.fl b s h).val / 256 * 2048 + n.val * 16 + (Block.fl b s h).val / 16 % 16) % 2048 = (16 * n.val + s.val) % 2048 := by
    simp only [Block.fl]; omega
  simp only [e1, e2]
  rfl

/-- The first states' array. -/
theorem w (b : Fin 4) (h : Fin 16) (e d : Fin 64) : V m c main_call0_v65 (ix3 (Points.hrow b h) e d) = arg1 m c (ix4 b h e d) := by
  unfold V V0
  after_reads_at
  have e1 : (Points.hrow b h).val / 16 = b.val := by simp only [Points.hrow]; omega
  have e2 : (Points.hrow b h).val % 16 = h.val := by simp only [Points.hrow]; omega
  simp only [e1, e2]

theorem fl_mod (b : Fin 2) (t h : Fin 16) : (Block.fl b t h).val % 16 = h.val := by simp only [Block.fl]; omega

/-- The scales' array, and the shifts'. -/
theorem lw (b : Fin 2) (t h : Fin 16) (d : Fin 64) : V m c main_call0_v68 (ix2 (Block.fl b t h) d) = arg7 m c (ix2 h d) := by
  unfold V V0
  after_reads_at
  simp only [fl_mod]
theorem lb (b : Fin 2) (t h : Fin 16) (d : Fin 64) : V m c main_call0_v71 (ix2 (Block.fl b t h) d) = arg8 m c (ix2 h d) := by
  unfold V V0
  after_reads_at
  simp only [fl_mod]

/-- The heads' sequences, of the arguments. -/
abbrev heads : Fin 4 → Fin 16 → Chain :=
  chain (arg0 m c) (arg1 m c) (arg2 m c) (arg3 m c) (arg4 m c) (arg6 m c) (arg7 m c) (arg8 m c)

theorem fits : Points.Fits m c (heads m c) where
  k := fun b n t h d _ => k m c b _ h d
  v := fun b n t h d _ => v m c b _ h d
  q := fun b n t h d _ => q m c b _ h d
  e := fun i b n t h d => e m c i b n t h d
  w := fun b h e d => w m c b h e d
  lw := fun b t h d _ => lw m c b t h d
  lb := fun b t h d _ => lb m c b t h d

end Cert.Proof.Entry

end
-- ==== Proof.Tail.lean ====
/-
  THE KERNEL'S RESULTS: what the host operations after the launch make of the rows and states the launch leaves.
-/
module

public import proofs.«01_k».proof.Proof.Entry
public import proofs.«01_k».proof.Proof.Gen.KernelIdeal.Frame

@[expose] public section

set_option maxRecDepth 16384

noncomputable section

namespace Cert.Proof.Tail

open Idealize.ShloMosaic Idealize.ShloMosaic.TcCoe Idealize.ShloMosaic.Tactic Cert.KernelIdeal Cert.KernelIdeal.Gen
open Inputs Idealize.SL.Sem
open scoped BigOperators

variable (m : (ℓ : Loc nD τ sig) → Buf (Elt Ideal) ℓ) (c : Dev nD)

/-- What the host operations after the launch leave in a buffer. -/
abbrev fin (b : Ref sig .tc) : Buf (Elt Ideal) ((c.tc : Thread nD τ).loc b) :=
  Pipeline.afterTail₀ cfgs (dats m) 0 (V0 m) [hostOps1] c b

/-- The contents the launch leaves. -/
abbrev exit : Valuation τ sig (Elt Ideal) :=
  Pipeline.withArrays (cfgs (0 : Fin 1)).spec c (V0 m c) fun w => (dats m 0 c).arrAt w (cfgs (0 : Fin 1)).N

theorem exit_z : exit m c (Proc.devRef .tc main_call0_v72_0) = Points.zArr (Entry.heads m c) :=
  (Pipeline.withArrays_arr cfg0.spec launch0.win.arr_inj c (V0 m c) _ 7).trans (Points.arr_z (Entry.fits m c))
theorem exit_w : exit m c (Proc.devRef .tc main_call0_v72_1) = Points.wArr (Entry.heads m c) :=
  (Pipeline.withArrays_arr cfg0.spec launch0.win.arr_inj c (V0 m c) _ 8).trans (Points.arr_w (Entry.fits m c))
theorem exit_o : exit m c (Proc.devRef .tc main_arg5) = Entry.arg5 m c :=
  (Pipeline.withArrays_of_ne cfg0.spec c (V0 m c) _ main_arg5 (by decide +kernel)).trans (by
    unfold V0
    after_reads_simp)

/-- The first result at an index: the output map over the rows of the chunk that holds the time. -/
theorem out_at (b : Fin 4) (t : Fin 2048) (f : Fin 1024) : fin m c main_v0_0 (ix3 b t f)
    = ∑ i : Fin 1024, (Entry.heads m c b ⟨i.val / 64, by omega⟩).rows (t.val / 16) ⟨t.val % 16, by omega⟩ ⟨i.val % 64, by omega⟩ * Entry.arg5 m c (ix2 f i) := by
  show StableHlo.after hostOps1 (exit m c) (Proc.devRef .tc main_v0_0) (ix3 b t f) = _
  rw [← exit_o]
  have hz := exit_z m c
  generalize exit m c = W at hz ⊢
  after_reads_at
  simp only [Entry.div_row, Entry.mod_row, hz]
  rfl

/-- The second result at an index: the states after the last chunk. -/
theorem w_at (b : Fin 4) (h : Fin 16) (e d : Fin 64) : fin m c main_v0_1 (ix4 b h e d) = (Entry.heads m c b h).state 128 e d := by
  show StableHlo.after hostOps1 (exit m c) (Proc.devRef .tc main_v0_1) (ix4 b h e d) = _
  have hw := exit_w m c
  generalize exit m c = W at hw ⊢
  after_reads_at
  have e1 : (b.val * 16 + h.val) / 16 = b.val := by omega
  have e2 : (b.val * 16 + h.val) % 16 = h.val := by omega
  rw [hw]
  show (Entry.heads m c ⟨(b.val * 16 + h.val) / 16, _⟩ ⟨(b.val * 16 + h.val) % 16, _⟩).state 128 e d = _
  simp only [e1, e2]

/-- The run: both results as the host operations after the launch leave them. -/
theorem run (ρ : Dev nD → PrngReg) : θ_run defs (onTc (τ := τ) (main (F := Ideal))) ⟨m, fun _ => 0, ρ⟩ fun r => ∀ c : Dev nD,
    r.2.mem ((c.tc : Thread nD τ).loc main_v0_0) = fin m c main_v0_0 ∧ r.2.mem ((c.tc : Thread nD τ).loc main_v0_1) = fin m c main_v0_1 :=
  (θ_run defs _ _).mono (fun _ h c =>
    ⟨(h c).2 main_v0_0 (Pipeline.mem_restRefs_of main_v0_0 (by decide) (by decide +kernel)),
      (h c).2 main_v0_1 (Pipeline.mem_restRefs_of main_v0_1 (by decide) (by decide +kernel))⟩) (run_main m ρ)

end Cert.Proof.Tail

end
-- ==== Proof.RefStep.lean ====
/-
  ONE TRIP OF THE REFERENCE'S LOOP, index by index: each head of each batch row takes the step of `Head`.
-/
module

public import proofs.«01_k».proof.Proof.Chain
public import proofs.«01_k».proof.Proof.Gen.ReferenceIdeal.Step
public import Idealize.ShloMosaic.Lib.Pointwise
public import Idealize.ShloMosaic.Lib.DynamicIndex

@[expose] public section

set_option maxRecDepth 16384

noncomputable section

namespace Cert.Proof.RefStep

open Idealize.ShloMosaic Idealize.ShloMosaic.TcCoe Idealize.ShloMosaic.Tactic Cert.ReferenceIdeal Cert.ReferenceIdeal.Gen
open Cert.ReferenceIdeal.Step
open scoped BigOperators

variable (s : State Ideal) (j : ℕ)

/-! ## The reference's number of features less no degrees of freedom -/

theorem lanes_eq : Head.lanes = ((64 : ℝ) : EReal) := by
  unfold Head.lanes
  simp [Ideal.ofBits, Ideal.ieee, -EReal.coe_mul]; norm_num
theorem lanes_sub : Ideal.ofBits FTy.f32 1115684864#32 - FloatOps.sitofp (F := Ideal) FTy.f32 0#32 = Head.lanes := by
  show Head.lanes - (((0#32 : BitVec 32).toInt : ℝ) : EReal) = Head.lanes
  simp
theorem lanes_pos : 0 < Head.lanes := by
  rw [lanes_eq]; exact EReal.coe_pos.mpr (by norm_num)

/-! ## A trip's operands by head -/

/-- A head's keys, values, queries and step sizes in the trip, its state before it, and its scale and shift. -/
def ks (b : Fin 4) (h : Fin 16) : Fin 16 → Head.Row := fun t d => b5 j s (ix4 b h t d)
def vs (b : Fin 4) (h : Fin 16) : Fin 16 → Head.Row := fun t d => b11 j s (ix4 b h t d)
def qs (b : Fin 4) (h : Fin 16) : Fin 16 → Head.Row := fun t d => b17 j s (ix4 b h t d)
def es (b : Fin 4) (h : Fin 16) : Fin 16 → Head.Row := fun t _ => b22 j s (ix3 b h t)
def ws (b : Fin 4) (h : Fin 16) : Fin 64 → Head.Row := fun e d => s.main_v75_8 (ix4 b h e d)
def lws (h : Fin 16) : Head.Row := fun d => s.main_v75_4 (ix2 h d)
def lbs (h : Fin 16) : Head.Row := fun d => s.main_v75_5 (ix2 h d)

variable (b : Fin 4) (h t : Fin 16) (d : Fin 64)

/-- The prediction of a key row. -/
theorem proj_at : b23 j s (ix4 b h t d) = Head.proj (ws s b h) (ks s j b h t) d := by
  pointwise [b23]
  rfl

/-- The prediction row, as a row. -/
theorem proj_row : (fun e => b23 j s (ix4 b h t e)) = Head.proj (ws s b h) (ks s j b h t) := funext fun e => proj_at s j b h t e

/-- The normalised prediction. -/
theorem hat_at : b61 j s (ix4 b h t d) = Head.hat (Head.proj (ws s b h) (ks s j b h t)) d := by
  rw [← proj_row]
  pointwise [b61, b60, b59, b58, b57, b56, b55, b54, b53, b52, b51, b50, b49, b48, b47, b46, b45, b44, b43, b42, b41, b40, b39, b38, b37, b36, b35, b34, b33, b32, b31, b30, b29, b28, b27, b26, b25, b24]
  simp only [lanes_sub, if_pos lanes_pos]
  rfl

/-- The inverse deviation of the prediction. -/
theorem inv_at : b106 j s (ix4 b h t 0) = Head.inv (Head.proj (ws s b h) (ks s j b h t)) := by
  rw [← proj_row]
  pointwise [b106, b105, b104, b103, b102, b101, b100, b99, b98, b97, b96, b95, b94, b93, b92, b91, b90, b89, b88, b87, b86, b85, b84, b83, b82, b81, b80, b79]
  simp only [lanes_sub, if_pos lanes_pos]
  rfl

/-- The normalised prediction, as the backward pass makes it. -/
theorem hat_at' : b110 j s (ix4 b h t d) = Head.hat (Head.proj (ws s b h) (ks s j b h t)) d := by
  pointwise [b110, b109, b108, b107, b78, b77, b76, b75, b74, b73]
  rw [inv_at, ← proj_row]
  rfl

/-- The gradient of the normalised prediction. -/
theorem dx_at : b113 j s (ix4 b h t d) = Head.dx (Head.proj (ws s b h) (ks s j b h t)) (ks s j b h t) (vs s j b h t) (lws s h) (lbs s h) d := by
  pointwise [b113, b112, b111, b72, b71, b70, b69, b68, b67, b66, b65, b64, b63, b62]
  rw [hat_at]
  rfl

/-- The gradient row, as a row. -/
theorem dx_row : (fun e => b113 j s (ix4 b h t e))
    = Head.dx (Head.proj (ws s b h) (ks s j b h t)) (ks s j b h t) (vs s j b h t) (lws s h) (lbs s h) := funext fun e => dx_at s j b h t e

/-- The update row. -/
theorem upd_at : b137 j s (ix4 b h t d) = Head.upd (ws s b h) (ks s j b h) (vs s j b h) (es s j b h) (lws s h) (lbs s h) t d := by
  pointwise [b137, b136, b135, b133, b132, b131, b130, b129, b128, b127, b126, b125, b124, b123, b122, b121, b120, b119, b118, b117, b116, b115, b114]
  simp only [inv_at, hat_at', dx_at]
  rfl

/-- The programs' mask, "row less one at or above column" on 32-bit row and column numbers, as a comparison of numbers. -/
theorem select_mask (t x : Fin 16) (y z : EReal) :
    Scalar.select (Scalar.select (IntOp.cmpi CmpIPredicate.sge (IntOp.addi (BitVec.ofNat 32 (t : ℕ)) 4294967295#32) (BitVec.ofNat 32 (x : ℕ))) 1#1 0#1) y z
      = if x < t then y else z := by
  have e : ∀ t x : Fin 16, (Scalar.select (IntOp.cmpi CmpIPredicate.sge (IntOp.addi (BitVec.ofNat 32 (t : ℕ)) 4294967295#32) (BitVec.ofNat 32 (x : ℕ))) 1#1 0#1 : BitVec 1)
      = if x < t then 1#1 else 0#1 := by decide +kernel
  rw [e]
  split <;> rfl

/-- The query row through the moving state. -/
theorem look_at : b145 j s (ix4 b h t d) = Head.look (ws s b h) (ks s j b h) (qs s j b h)
    (Head.upd (ws s b h) (ks s j b h) (vs s j b h) (es s j b h) (lws s h) (lbs s h)) t d := by
  pointwise [b145, b144, b143, b142, b141, b140, b139, b138, b134, K_main_v73, K_main_call0_v5, K_main_call0_c_0, K_main_call0_v4, K_main_call0_v3, K_main_call0_v2, K_main_call0_v1, K_main_call0_c, K_main_call0_v0, K_main_v72, K_main_c]
  simp only [select_mask, upd_at]
  rfl

/-- The query row, as a row. -/
theorem look_row : (fun e => b145 j s (ix4 b h t e)) = Head.look (ws s b h) (ks s j b h) (qs s j b h)
    (Head.upd (ws s b h) (ks s j b h) (vs s j b h) (es s j b h) (lws s h) (lbs s h)) t := funext fun e => look_at s j b h t e

/-- The output row. -/
theorem out_at : b190 j s (ix4 b h t d) = Head.out (ws s b h) (ks s j b h) (qs s j b h)
    (Head.upd (ws s b h) (ks s j b h) (vs s j b h) (es s j b h) (lws s h) (lbs s h)) (lws s h) (lbs s h) t d := by
  unfold Head.out
  rw [← look_row]
  pointwise [b190, b189, b188, b187, b186, b185, b184, b183, b182, b181, b180, b179, b178, b177, b176, b175, b174, b173, b172, b171, b170, b169, b168, b167, b166, b165, b164, b163, b162, b161, b160, b159, b158, b157, b156, b155, b154, b153, b152, b151, b150, b149, b148, b147, b146]
  simp only [lanes_sub, if_pos lanes_pos]
  rfl

/-- The state after the trip. -/
theorem next_at (e : Fin 64) : b192 j s (ix4 b h e d) = Head.next (ws s b h) (ks s j b h)
    (Head.upd (ws s b h) (ks s j b h) (vs s j b h) (es s j b h) (lws s h) (lbs s h)) e d := by
  pointwise [b192, b191]
  simp only [upd_at]
  rfl

/-! ## The trip's chunk -/

variable {j} (hj : j < 128)

/-- The trip's five start words: its own number along the chunks, nought along the rest. -/
abbrev words5 (j : ℕ) : Fin 5 → ℤ := fun k => BitVec.toInt ((![constantI S_ 32 (BitVec.ofNat 32 j), constantI S_ 32 0#32, constantI S_ 32 0#32, constantI S_ 32 0#32, constantI S_ 32 0#32] : Fin 5 → (⟨S_, .i32⟩ : BufTy).Contents (Elt Ideal)) k (Shape.Idx.first h_S_))
/-- The trip's four start words for the step sizes. -/
abbrev words4 (j : ℕ) : Fin 4 → ℤ := fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))

include hj in
/-- The trip's rows are cut at its own chunk. -/
theorem cut5_first (ht : S1x4x16x16x64.rank = S128x4x16x16x64.rank) :
    Host.clampedStart S128x4x16x16x64 S1x4x16x16x64 ht (words5 j) (0 : Fin 5) = j :=
  Host.clampedStart_of_le ht (words5 j) (0 : Fin 5) j (toInt_ofNat_of_lt (by omega)) (show j + 1 ≤ 128 by omega)

/-- Along the other axes the cut starts at nought. -/
theorem cut5_rest (ht : S1x4x16x16x64.rank = S128x4x16x16x64.rank) (a : Fin 4) :
    Host.clampedStart S128x4x16x16x64 S1x4x16x16x64 ht (words5 j) a.succ = 0 := by
  refine Host.clampedStart_of_le ht (words5 j) a.succ 0 ?_ ?_
  · fin_cases a <;> rfl
  · fin_cases a <;> exact le_of_eq rfl

include hj in
/-- The trip's step sizes are cut at its own chunk. -/
theorem cut4_first (ht : S1x4x16x16.rank = S128x4x16x16.rank) :
    Host.clampedStart S128x4x16x16 S1x4x16x16 ht (words4 j) (0 : Fin 4) = j :=
  Host.clampedStart_of_le ht (words4 j) (0 : Fin 4) j (toInt_ofNat_of_lt (by omega)) (show j + 1 ≤ 128 by omega)

/-- Along the other axes the cut starts at nought. -/
theorem cut4_rest (ht : S1x4x16x16.rank = S128x4x16x16.rank) (a : Fin 3) :
    Host.clampedStart S128x4x16x16 S1x4x16x16 ht (words4 j) a.succ = 0 := by
  refine Host.clampedStart_of_le ht (words4 j) a.succ 0 ?_ ?_
  · fin_cases a <;> rfl
  · fin_cases a <;> exact le_of_eq rfl

include hj in
/-- An entry of an array over the chunks, read where the trip cuts it, is the entry of the trip's own chunk. -/
theorem cut_entry (X : S128x4x16x16x64.Idx → EReal) (b : Fin 4) (h t : Fin 16) (d : Fin 64)
    (l0 : Host.clampedStart S128x4x16x16x64 S1x4x16x16x64 rfl (words5 j) (0 : Fin 5) < 128)
    (l1 : Host.clampedStart S128x4x16x16x64 S1x4x16x16x64 rfl (words5 j) (1 : Fin 5) + b.val < 4)
    (l2 : Host.clampedStart S128x4x16x16x64 S1x4x16x16x64 rfl (words5 j) (2 : Fin 5) + h.val < 16)
    (l3 : Host.clampedStart S128x4x16x16x64 S1x4x16x16x64 rfl (words5 j) (3 : Fin 5) + t.val < 16)
    (l4 : Host.clampedStart S128x4x16x16x64 S1x4x16x16x64 rfl (words5 j) (4 : Fin 5) + d.val < 64) :
    X (ix5 ⟨_, l0⟩ ⟨_, l1⟩ ⟨_, l2⟩ ⟨_, l3⟩ ⟨_, l4⟩) = X (ix5 ⟨j, hj⟩ b h t d) := by
  have c1 := cut5_rest (j := j) rfl 0
  have c2 := cut5_rest (j := j) rfl 1
  have c3 := cut5_rest (j := j) rfl 2
  have c4 := cut5_rest (j := j) rfl 3
  refine congrArg X ?_
  congr 1 <;> apply Fin.ext
  · exact cut5_first hj rfl
  · exact (congrArg (· + b.val) c1).trans (Nat.zero_add _)
  · exact (congrArg (· + h.val) c2).trans (Nat.zero_add _)
  · exact (congrArg (· + t.val) c3).trans (Nat.zero_add _)
  · exact (congrArg (· + d.val) c4).trans (Nat.zero_add _)

include hj in
/-- A head's keys in the trip. -/
theorem k_at : ks s j b h t d = s.main_v75_0 (ix5 ⟨j, hj⟩ b h t d) := by
  unfold ks
  pointwise [b5, b4, b3, b2, b1, b0]
  exact cut_entry hj s.main_v75_0 b h t d _ _ _ _ _

include hj in
/-- A head's values in the trip. -/
theorem v_at : vs s j b h t d = s.main_v75_1 (ix5 ⟨j, hj⟩ b h t d) := by
  unfold vs
  pointwise [b11, b10, b9, b8, b7, b6]
  exact cut_entry hj s.main_v75_1 b h t d _ _ _ _ _

include hj in
/-- A head's queries in the trip. -/
theorem q_at : qs s j b h t d = s.main_v75_2 (ix5 ⟨j, hj⟩ b h t d) := by
  unfold qs
  pointwise [b17, b16, b15, b14, b13, b12]
  exact cut_entry hj s.main_v75_2 b h t d _ _ _ _ _

include hj in
/-- A head's step sizes in the trip. -/
theorem e_at : es s j b h t d = s.main_v75_3 (ix4 ⟨j, hj⟩ b h t) := by
  unfold es
  pointwise [b22, b21, b20, b19, b18]
  have c1 := cut4_rest (j := j) rfl 0
  have c2 := cut4_rest (j := j) rfl 1
  have c3 := cut4_rest (j := j) rfl 2
  refine congrArg s.main_v75_3 ?_
  congr 1 <;> apply Fin.ext
  · exact cut4_first hj rfl
  · exact (congrArg (· + b.val) c1).trans (Nat.zero_add _)
  · exact (congrArg (· + h.val) c2).trans (Nat.zero_add _)
  · exact (congrArg (· + t.val) c3).trans (Nat.zero_add _)

include hj in
/-- The collected rows after the trip: the trip's own rows at its chunk, the earlier ones elsewhere. -/
theorem z_at (n : Fin 128) : b198 j s (ix5 n b h t d) = if n.val = j then b190 j s (ix4 b h t d) else s.main_v75_9 (ix5 n b h t d) := by
  pointwise [b198, b193, b194, b195, b196, b197]
  have c0 := cut5_first hj rfl
  have c1 := cut5_rest (j := j) rfl 0
  have c2 := cut5_rest (j := j) rfl 1
  have c3 := cut5_rest (j := j) rfl 2
  have c4 := cut5_rest (j := j) rfl 3
  split
  · rename_i hin
    obtain ⟨⟨ha, hb⟩, -⟩ := hin
    have ha' : j ≤ n.val := le_of_eq_of_le c0.symm ha
    have hb' : n.val < j + 1 := lt_of_lt_of_eq hb (congrArg (· + 1) c0)
    rw [if_pos (by omega)]
    refine congrArg (b190 j s) ?_
    congr 1
  · rename_i hout
    rw [if_neg]
    intro e
    exact hout ⟨⟨le_of_eq_of_le c0 (by omega), lt_of_lt_of_eq (show n.val < j + 1 by omega) (congrArg (· + 1) c0).symm⟩,
      le_of_eq_of_le c1 (Nat.zero_le _), le_of_eq_of_le c2 (Nat.zero_le _), le_of_eq_of_le c3 (Nat.zero_le _), le_of_eq_of_le c4 (Nat.zero_le _)⟩

end Cert.Proof.RefStep

end
-- ==== Proof.RefIter.lean ====
/-
  THE REFERENCE'S LOOP AS THE HEADS' SEQUENCES: what it is started from, of the arguments, and the states and rows it
  holds after any number of trips.
-/
module

public import proofs.«01_k».proof.Proof.Inputs
public import proofs.«01_k».proof.Proof.RefStep
public import proofs.«01_k».proof.Proof.RefRun

@[expose] public section

set_option maxRecDepth 16384

noncomputable section

namespace Cert.Proof.RefIter

open Idealize.ShloMosaic Idealize.ShloMosaic.TcCoe Idealize.ShloMosaic.Tactic Cert.ReferenceIdeal Cert.ReferenceIdeal.Gen
open Cert.ReferenceIdeal.Step Cert.ReferenceIdeal.RefRun
open Inputs
open scoped BigOperators

variable (x : Vec Ideal S4x2048x1024 .f32) (W0 : Vec Ideal S4x16x64x64 .f32) (wq wk wv : Vec Ideal S1024x1024 .f32)
  (wr : Vec Ideal S1x1024 .f32) (lw lb : Vec Ideal S16x64 .f32)

/-! ## What the loop is started from -/

theorem time_eq (n : Fin 128) (t : Fin 16) : (⟨n.val * 16 + t.val, by omega⟩ : Fin 2048) = Points.time n.val t :=
  Fin.ext (show n.val * 16 + t.val = (16 * n.val + t.val) % 2048 by omega)

variable (b : Fin 4) (n : Fin 128) (h t : Fin 16) (d : Fin 64)

/-- The values. -/
theorem v_at : A_main_v67 x wq wk wv wr (ix5 n b h t d) = lin x wv b (Points.time n.val t) h d := by
  rw [← time_eq]
  pointwise [A_main_v67, A_main_v66, A_main_v11, A_main_v10, A_main_v9, A_main_v8]
  rfl

set_option maxHeartbeats 2000000 in
/-- The keys. -/
theorem k_at : A_main_v65 x wq wk wv wr (ix5 n b h t d) = rope (lin x wk b (Points.time n.val t) h) (Points.time n.val t).val d := by
  rw [← time_eq]
  unfold rope
  pointwise [A_main_v65, A_main_v64, A_main_v51, A_main_v50, A_main_v48, A_main_v47, A_main_v46, A_main_v45, A_main_v44, A_main_v7, A_main_v6, A_main_v5, A_main_v4, K_main_v49, K_main_v43, K_main_v40, K_main_v34, K_main_v31, K_main_v33, K_main_v30, K_main_v32, K_main_v29, K_main_v28, K_main_v26, K_main_v27, K_main_v24, K_main_v25, K_main_v12, K_main_v23, K_main_v22, K_main_v21, K_main_v20, K_main_v19, K_main_v18, K_main_v17, K_main_v16, K_main_v15, K_main_v14, K_main_v13, K_main_cst, K_main_cst_0, K_main_cst_1, K_main_cst_2, K_main_cst_3]
  by_cases hd : d.val < 32
  · simp only [dif_pos hd]
    rfl
  · simp only [dif_neg hd]
    rfl

set_option maxHeartbeats 2000000 in
/-- The queries. -/
theorem q_at : A_main_v69 x wq wk wv wr (ix5 n b h t d) = rope (lin x wq b (Points.time n.val t) h) (Points.time n.val t).val d := by
  rw [← time_eq]
  unfold rope
  pointwise [A_main_v69, A_main_v68, A_main_v42, A_main_v41, A_main_v39, A_main_v38, A_main_v37, A_main_v36, A_main_v35, A_main_v3, A_main_v2, A_main_v1, A_main_v0, K_main_v49, K_main_v43, K_main_v40, K_main_v34, K_main_v31, K_main_v33, K_main_v30, K_main_v32, K_main_v29, K_main_v28, K_main_v26, K_main_v27, K_main_v24, K_main_v25, K_main_v12, K_main_v23, K_main_v22, K_main_v21, K_main_v20, K_main_v19, K_main_v18, K_main_v17, K_main_v16, K_main_v15, K_main_v14, K_main_v13, K_main_cst, K_main_cst_0, K_main_cst_1, K_main_cst_2, K_main_cst_3]
  by_cases hd : d.val < 32
  · simp only [dif_pos hd]
    rfl
  · simp only [dif_neg hd]
    rfl

/-- The step sizes. -/
theorem e_at : A_main_v71 x wq wk wv wr (ix4 n b h t) = eta x wr b (Points.time n.val t) := by
  rw [← time_eq]
  pointwise [A_main_v71, A_main_v70, A_main_v63, A_main_v62, A_main_v61, A_main_v59, A_main_v57, A_main_v55, A_main_v54, A_main_v53, A_main_v52, K_main_cst_4, K_main_v56, K_main_cst_5, K_main_v58, K_main_cst_6, K_main_v60]
  rfl

/-! ## What the loop holds after `n` trips -/

/-- State `s` holds what the heads' sequences `I` have made after `n` chunks: their states, the output rows of the chunks
    done, and all they are given. -/
structure Holds (I : Fin 4 → Fin 16 → Chain) (n : ℕ) (s : State Ideal) : Prop where
  w : ∀ b h e d, s.main_v75_8 (ix4 b h e d) = (I b h).state n e d
  z : ∀ (c : Fin 128) b h t d, c.val < n → s.main_v75_9 (ix5 c b h t d) = (I b h).rows c.val t d
  k : ∀ (c : Fin 128) b h t d, s.main_v75_0 (ix5 c b h t d) = (I b h).K c.val t d
  v : ∀ (c : Fin 128) b h t d, s.main_v75_1 (ix5 c b h t d) = (I b h).V c.val t d
  q : ∀ (c : Fin 128) b h t d, s.main_v75_2 (ix5 c b h t d) = (I b h).Q c.val t d
  e : ∀ (c : Fin 128) b h t d, s.main_v75_3 (ix4 c b h t) = (I b h).E c.val t d
  lw : ∀ b h d, s.main_v75_4 (ix2 h d) = (I b h).lw d
  lb : ∀ b h d, s.main_v75_5 (ix2 h d) = (I b h).lb d

/-- The arguments hold what the sequences made of them start from. -/
theorem holds_init : Holds (chain x W0 wq wk wv wr lw lb) 0 (init W0 lw lb x wq wk wv wr) where
  w := fun _ _ _ _ => rfl
  z := fun _ _ _ _ _ hc => absurd hc (Nat.not_lt_zero _)
  k := fun c b h t d => k_at x wq wk wv wr b c h t d
  v := fun c b h t d => v_at x wq wk wv wr b c h t d
  q := fun c b h t d => q_at x wq wk wv wr b c h t d
  e := fun c b h t _ => e_at x wq wk wv wr b c h t
  lw := fun _ _ _ => rfl
  lb := fun _ _ _ => rfl

section
variable {I : Fin 4 → Fin 16 → Chain} {j : ℕ} {s : State Ideal} (H : Holds I j s) (hj : j < 128)

include H hj in
/-- A trip's operands are the sequences' next chunk. -/
theorem ks_eq (b : Fin 4) (h : Fin 16) : RefStep.ks s j b h = (I b h).K j := by
  funext t d; rw [RefStep.k_at s b h t d hj, H.k]
include H hj in
theorem vs_eq (b : Fin 4) (h : Fin 16) : RefStep.vs s j b h = (I b h).V j := by
  funext t d; rw [RefStep.v_at s b h t d hj, H.v]
include H hj in
theorem qs_eq (b : Fin 4) (h : Fin 16) : RefStep.qs s j b h = (I b h).Q j := by
  funext t d; rw [RefStep.q_at s b h t d hj, H.q]
include H hj in
theorem es_eq (b : Fin 4) (h : Fin 16) : RefStep.es s j b h = (I b h).E j := by
  funext t d; rw [RefStep.e_at s b h t d hj]; exact H.e _ b h t d
include H in
theorem ws_eq (b : Fin 4) (h : Fin 16) : RefStep.ws s b h = (I b h).state j := by
  funext e d; exact H.w b h e d
include H in
theorem lws_eq (b : Fin 4) (h : Fin 16) : RefStep.lws s h = (I b h).lw := by
  funext d; exact H.lw b h d
include H in
theorem lbs_eq (b : Fin 4) (h : Fin 16) : RefStep.lbs s h = (I b h).lb := by
  funext d; exact H.lb b h d

include H hj in
/-- One trip carries the sequences one chunk on. -/
theorem Holds.trip : Holds I (j + 1) (step j s) where
  w := fun b h e d => by
    rw [step_main_v75_8, RefStep.next_at s j b h d e, ks_eq H hj b h, vs_eq H hj b h, es_eq H hj b h, ws_eq H b h, lws_eq H b h, lbs_eq H b h]
    rfl
  z := fun c b h t d hc => by
    rw [step_main_v75_9, RefStep.z_at s b h t d hj c]
    split
    · rename_i e
      rw [RefStep.out_at, ks_eq H hj b h, vs_eq H hj b h, qs_eq H hj b h, es_eq H hj b h, ws_eq H b h, lws_eq H b h, lbs_eq H b h, e]
      rfl
    · exact H.z c b h t d (by omega)
  k := H.k
  v := H.v
  q := H.q
  e := H.e
  lw := H.lw
  lb := H.lb

end

variable (m : (ℓ : Loc nD τ sig) → Buf (Elt Ideal) ℓ) (c : Dev nD)

/-- An argument of the reference. -/
abbrev arg0 : Vec Ideal S4x2048x1024 .f32 := m (c.tc.loc main_arg0)
abbrev arg1 : Vec Ideal S4x16x64x64 .f32 := m (c.tc.loc main_arg1)
abbrev arg2 : Vec Ideal S1024x1024 .f32 := m (c.tc.loc main_arg2)
abbrev arg3 : Vec Ideal S1024x1024 .f32 := m (c.tc.loc main_arg3)
abbrev arg4 : Vec Ideal S1024x1024 .f32 := m (c.tc.loc main_arg4)
abbrev arg5 : Vec Ideal S1024x1024 .f32 := m (c.tc.loc main_arg5)
abbrev arg6 : Vec Ideal S1x1024 .f32 := m (c.tc.loc main_arg6)
abbrev arg7 : Vec Ideal S16x64 .f32 := m (c.tc.loc main_arg7)
abbrev arg8 : Vec Ideal S16x64 .f32 := m (c.tc.loc main_arg8)

/-- The heads' sequences, of the arguments. -/
abbrev heads : Fin 4 → Fin 16 → Chain :=
  chain (arg0 m c) (arg1 m c) (arg2 m c) (arg3 m c) (arg4 m c) (arg6 m c) (arg7 m c) (arg8 m c)

/-- The loop's state number `n` holds what the sequences have made after `n` chunks. -/
theorem holds : ∀ n, n ≤ 128 → Holds (heads m c) n (it m c n)
  | 0, _ => holds_init _ _ _ _ _ _ _ _
  | n + 1, hn => (holds n (by omega)).trip (by omega)

/-! ## The results -/

/-- The first result at an index: the output map over the rows of the chunk that holds the time. -/
theorem out_at (b : Fin 4) (t : Fin 2048) (f : Fin 1024) : R_main_v81 (it m c 128) (arg5 m c) (ix3 b t f)
    = ∑ i : Fin 1024, (heads m c b ⟨i.val / 64, by omega⟩).rows (t.val / 16) ⟨t.val % 16, by omega⟩ ⟨i.val % 64, by omega⟩ * arg5 m c (ix2 f i) := by
  pointwise [R_main_v81]
  refine Finset.sum_congr rfl fun i _ => ?_
  rw [(holds m c 128 le_rfl).z _ b _ _ _ (by show t.val / 16 < 128; omega)]

/-- The second result at an index: the states after the last chunk. -/
theorem w_at (b : Fin 4) (h : Fin 16) (e d : Fin 64) : (it m c 128).main_v75_8 (ix4 b h e d) = (heads m c b h).state 128 e d :=
  (holds m c 128 le_rfl).w b h e d

end Cert.Proof.RefIter

end
-- ==== Proof.Algebraic.lean ====
/-
  THE VALUE CLAIM: over the extended reals the kernel and the reference, from equal arguments, end with equal results.
-/
module

public import proofs.«01_k».proof.Defs
public import proofs.«01_k».proof.Proof.Tail
public import proofs.«01_k».proof.Proof.RefIter

@[expose] public section

noncomputable section

namespace Cert.Proof

open Idealize.ShloMosaic Idealize.ShloMosaic.TcCoe Idealize.SL.Sem

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}
  {c : Dev KernelIdeal.nD}

/-- The two programs' arguments at a device are equal. -/
structure Same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop where
  a0 : RefIter.arg0 m' c = Entry.arg0 m c
  a1 : RefIter.arg1 m' c = Entry.arg1 m c
  a2 : RefIter.arg2 m' c = Entry.arg2 m c
  a3 : RefIter.arg3 m' c = Entry.arg3 m c
  a4 : RefIter.arg4 m' c = Entry.arg4 m c
  a5 : RefIter.arg5 m' c = Entry.arg5 m c
  a6 : RefIter.arg6 m' c = Entry.arg6 m c
  a7 : RefIter.arg7 m' c = Entry.arg7 m c
  a8 : RefIter.arg8 m' c = Entry.arg8 m c

/-- Of equal arguments the heads' sequences are equal. -/
theorem Same.heads (S : Same m m' c) : RefIter.heads m' c = Entry.heads m c := by
  show Inputs.chain _ _ _ _ _ _ _ _ = Inputs.chain _ _ _ _ _ _ _ _
  rw [S.a0, S.a1, S.a2, S.a3, S.a4, S.a6, S.a7, S.a8]

/-- The first results are equal. -/
theorem Same.out (S : Same m m' c) :
    ReferenceIdeal.Step.R_main_v81 (ReferenceIdeal.RefRun.it m' c 128) (RefIter.arg5 m' c) = Tail.fin m c KernelIdeal.main_v0_0 := by
  refine funext fun y => ?_
  obtain ⟨b, t, f, rfl⟩ : ∃ b t f, y = ix3 b t f := ⟨y 0, y 1, y 2, (ix3_eta y).symm⟩
  refine (RefIter.out_at m' c b t f).trans (Eq.trans ?_ (Tail.out_at m c b t f).symm)
  rw [S.heads, S.a5]

/-- The second results are equal. -/
theorem Same.states (S : Same m m' c) : (ReferenceIdeal.RefRun.it m' c 128).main_v75_8 = Tail.fin m c KernelIdeal.main_v0_1 := by
  refine funext fun y => ?_
  obtain ⟨b, h, e, d, rfl⟩ : ∃ b h e d, y = ix4 b h e d := ⟨y 0, y 1, y 2, y 3, (ix4_eta y).symm⟩
  refine (RefIter.w_at m' c b h e d).trans (Eq.trans ?_ (Tail.w_at m c b h e d).symm)
  rw [S.heads]

/-- The kernel and the reference end with equal results. -/
theorem algebraic : Cert.algebraic_KernelIdeal_ReferenceIdeal := by
  intro m g m' g' _ hagree
  have S : ∀ c, Same m m' c := fun c => by
    obtain ⟨h0, h1, h2, h3, h4, h5, h6, h7, h8⟩ := hagree c
    exact ⟨h0, h1, h2, h3, h4, h5, h6, h7, h8⟩
  refine ⟨fun c => Tail.fin m c KernelIdeal.main_v0_0, fun c => Tail.fin m c KernelIdeal.main_v0_1, ?_, ?_⟩
  · exact (θ_run KernelIdeal.defs _ _).mono (fun r h c => ⟨(h.1 c).1, (h.1 c).2, h.2 c⟩)
      (θ_run_and (Tail.run m g) (KernelIdeal.Gen.unchanged m g))
  · exact (θ_run ReferenceIdeal.defs _ _).mono
      (fun r h c => ⟨(h c).1.trans (S c).out, (h c).2.1.trans (S c).states, (h c).2.2⟩)
      (ReferenceIdeal.RefRun.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Step
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the three frames, the idealized kernel (no operation was rewritten), the value claim. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
